-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x4096 : Shape := ⟨3, ![3, 1, 4096]⟩
abbrev S14336x2048 : Shape := ⟨2, ![14336, 2048]⟩
abbrev S14336x16 : Shape := ⟨2, ![14336, 16]⟩
abbrev S3x4096 : Shape := ⟨2, ![3, 4096]⟩
abbrev S16x14336 : Shape := ⟨2, ![16, 14336]⟩
abbrev S3x14336 : Shape := ⟨2, ![3, 14336]⟩
abbrev S512x2048 : Shape := ⟨2, ![512, 2048]⟩
abbrev S16x512 : Shape := ⟨2, ![16, 512]⟩
abbrev S3x512 : Shape := ⟨2, ![3, 512]⟩
abbrev S16x4096 : Shape := ⟨2, ![16, 4096]⟩
abbrev S4x4096 : Shape := ⟨2, ![4, 4096]⟩
abbrev S32x128 : Shape := ⟨2, ![32, 128]⟩
abbrev S8x128 : Shape := ⟨2, ![8, 128]⟩
abbrev S16x128 : Shape := ⟨2, ![16, 128]⟩
abbrev S8x128x1 : Shape := ⟨3, ![8, 128, 1]⟩
abbrev S32x128x1 : Shape := ⟨3, ![32, 128, 1]⟩
abbrev S256x256 : Shape := ⟨2, ![256, 256]⟩
abbrev S64x256 : Shape := ⟨2, ![64, 256]⟩
abbrev S128x256 : Shape := ⟨2, ![128, 256]⟩
abbrev S256x128 : Shape := ⟨2, ![256, 128]⟩
abbrev S16x256 : Shape := ⟨2, ![16, 256]⟩
abbrev S3x128 : Shape := ⟨2, ![3, 128]⟩
abbrev S3x1x14336 : Shape := ⟨3, ![3, 1, 14336]⟩

abbrev nBuf : Space → Nat
  | .hbm => 7
  | .vmem => 8
  | .smem => 0
  | _ => 0

abbrev bufTy : (tb : Table) → Fin (tcTables nBuf tb) → BufTy
  | .hbm, ⟨0, _⟩ => ⟨S3x1x4096, .bf16⟩
  | .hbm, ⟨1, _⟩ => ⟨S14336x2048, .i8⟩
  | .hbm, ⟨2, _⟩ => ⟨S14336x16, .i16⟩
  | .hbm, ⟨3, _⟩ => ⟨S3x4096, .bf16⟩
  | .hbm, ⟨4, _⟩ => ⟨S16x14336, .i16⟩
  | .hbm, ⟨5, _⟩ => ⟨S3x14336, .bf16⟩
  | .hbm, ⟨6, _⟩ => ⟨S3x1x14336, .bf16⟩
  | .local _ .vmem, ⟨0, _⟩ => ⟨S3x4096, .bf16⟩
  | .local _ .vmem, ⟨1, _⟩ => ⟨S512x2048, .i8⟩
  | .local _ .vmem, ⟨2, _⟩ => ⟨S512x2048, .i8⟩
  | .local _ .vmem, ⟨3, _⟩ => ⟨S16x512, .i16⟩
  | .local _ .vmem, ⟨4, _⟩ => ⟨S16x512, .i16⟩
  | .local _ .vmem, ⟨5, _⟩ => ⟨S3x512, .bf16⟩
  | .local _ .vmem, ⟨6, _⟩ => ⟨S3x512, .bf16⟩
  | .local _ .vmem, ⟨7, _⟩ => ⟨S16x4096, .bf16⟩
  | _, _ => ⟨S3x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x1x4096 : Shape := ⟨3, ![3, 1, 4096]⟩
abbrev S14336x2048 : Shape := ⟨2, ![14336, 2048]⟩
abbrev S14336x16 : Shape := ⟨2, ![14336, 16]⟩
abbrev S_ : Shape := ⟨0, ![]⟩
abbrev S14336x1 : Shape := ⟨2, ![14336, 1]⟩
abbrev S3x1x2048 : Shape := ⟨3, ![3, 1, 2048]⟩
abbrev S3x1x14336 : Shape := ⟨3, ![3, 1, 14336]⟩

abbrev nBuf : Space → Nat
  | .hbm => 184
  | .vmem => 0
  | .smem => 0
  | _ => 0

abbrev hbmTy0_0 (i : Nat) : BufTy := match i % 128 with
  | 0 => ⟨S3x1x4096, .bf16⟩
  | 1 => ⟨S14336x2048, .i8⟩
  | 2 => ⟨S14336x16, .i16⟩
  | 3 => ⟨S14336x2048, .i32⟩
  | 4 => ⟨S_, .i32⟩
  | 5 => ⟨S14336x2048, .i32⟩
  | 6 => ⟨S14336x2048, .i32⟩
  | 7 => ⟨S14336x2048, .i32⟩
  | 8 => ⟨S_, .i32⟩
  | 9 => ⟨S14336x2048, .i32⟩
  | 10 => ⟨S14336x2048, .i32⟩
  | 11 => ⟨S14336x16, .bf16⟩
  | 12 => ⟨S14336x1, .bf16⟩
  | 13 => ⟨S14336x1, .bf16⟩
  | 14 => ⟨S14336x1, .bf16⟩
  | 15 => ⟨S14336x1, .bf16⟩
  | 16 => ⟨S14336x1, .bf16⟩
  | 17 => ⟨S14336x1, .bf16⟩
  | 18 => ⟨S14336x1, .bf16⟩
  | 19 => ⟨S14336x1, .bf16⟩
  | 20 => ⟨S14336x1, .bf16⟩
  | 21 => ⟨S14336x1, .bf16⟩
  | 22 => ⟨S14336x1, .bf16⟩
  | 23 => ⟨S14336x1, .bf16⟩
  | 24 => ⟨S14336x1, .bf16⟩
  | 25 => ⟨S14336x1, .bf16⟩
  | 26 => ⟨S14336x1, .bf16⟩
  | 27 => ⟨S14336x1, .bf16⟩
  | 28 => ⟨S_, .i32⟩
  | 29 => ⟨S14336x2048, .i32⟩
  | 30 => ⟨S14336x2048, .i32⟩
  | 31 => ⟨S_, .i32⟩
  | 32 => ⟨S14336x2048, .i32⟩
  | 33 => ⟨S14336x2048, .i32⟩
  | 34 => ⟨S_, .i32⟩
  | 35 => ⟨S14336x2048, .i32⟩
  | 36 => ⟨S14336x2048, .i1⟩
  | 37 => ⟨S14336x2048, .bf16⟩
  | 38 => ⟨S14336x2048, .bf16⟩
  | 39 => ⟨S14336x2048, .bf16⟩
  | 40 => ⟨S14336x2048, .bf16⟩
  | 41 => ⟨S14336x2048, .bf16⟩
  | 42 => ⟨S14336x2048, .bf16⟩
  | 43 => ⟨S14336x2048, .bf16⟩
  | 44 => ⟨S14336x2048, .bf16⟩
  | 45 => ⟨S14336x2048, .bf16⟩
  | 46 => ⟨S14336x2048, .bf16⟩
  | 47 => ⟨S14336x2048, .bf16⟩
  | 48 => ⟨S14336x2048, .bf16⟩
  | 49 => ⟨S14336x2048, .bf16⟩
  | 50 => ⟨S14336x2048, .bf16⟩
  | 51 => ⟨S14336x2048, .bf16⟩
  | 52 => ⟨S14336x2048, .bf16⟩
  | 53 => ⟨S14336x2048, .bf16⟩
  | 54 => ⟨S14336x2048, .bf16⟩
  | 55 => ⟨S14336x2048, .bf16⟩
  | 56 => ⟨S14336x2048, .bf16⟩
  | 57 => ⟨S14336x2048, .bf16⟩
  | 58 => ⟨S14336x2048, .bf16⟩
  | 59 => ⟨S14336x2048, .bf16⟩
  | 60 => ⟨S14336x2048, .bf16⟩
  | 61 => ⟨S_, .i32⟩
  | 62 => ⟨S14336x2048, .i32⟩
  | 63 => ⟨S14336x2048, .i32⟩
  | 64 => ⟨S_, .i32⟩
  | 65 => ⟨S14336x2048, .i32⟩
  | 66 => ⟨S14336x2048, .i32⟩
  | 67 => ⟨S_, .i32⟩
  | 68 => ⟨S14336x2048, .i32⟩
  | 69 => ⟨S14336x2048, .i1⟩
  | 70 => ⟨S14336x2048, .bf16⟩
  | 71 => ⟨S14336x2048, .bf16⟩
  | 72 => ⟨S14336x2048, .bf16⟩
  | 73 => ⟨S14336x2048, .bf16⟩
  | 74 => ⟨S_, .i32⟩
  | 75 => ⟨S14336x2048, .i32⟩
  | 76 => ⟨S14336x2048, .i32⟩
  | 77 => ⟨S_, .i32⟩
  | 78 => ⟨S14336x2048, .i32⟩
  | 79 => ⟨S14336x2048, .i32⟩
  | 80 => ⟨S_, .i32⟩
  | 81 => ⟨S14336x2048, .i32⟩
  | 82 => ⟨S14336x2048, .i1⟩
  | 83 => ⟨S14336x2048, .bf16⟩
  | 84 => ⟨S14336x2048, .bf16⟩
  | 85 => ⟨S_, .i32⟩
  | 86 => ⟨S14336x2048, .i32⟩
  | 87 => ⟨S14336x2048, .i32⟩
  | 88 => ⟨S_, .i32⟩
  | 89 => ⟨S14336x2048, .i32⟩
  | 90 => ⟨S14336x2048, .i32⟩
  | 91 => ⟨S_, .i32⟩
  | 92 => ⟨S14336x2048, .i32⟩
  | 93 => ⟨S14336x2048, .i1⟩
  | 94 => ⟨S14336x2048, .bf16⟩
  | 95 => ⟨S14336x1, .bf16⟩
  | 96 => ⟨S14336x1, .bf16⟩
  | 97 => ⟨S14336x1, .bf16⟩
  | 98 => ⟨S14336x1, .bf16⟩
  | 99 => ⟨S14336x1, .bf16⟩
  | 100 => ⟨S14336x1, .bf16⟩
  | 101 => ⟨S14336x1, .bf16⟩
  | 102 => ⟨S14336x1, .bf16⟩
  | 103 => ⟨S14336x1, .bf16⟩
  | 104 => ⟨S14336x1, .bf16⟩
  | 105 => ⟨S14336x1, .bf16⟩
  | 106 => ⟨S14336x1, .bf16⟩
  | 107 => ⟨S14336x1, .bf16⟩
  | 108 => ⟨S14336x1, .bf16⟩
  | 109 => ⟨S14336x1, .bf16⟩
  | 110 => ⟨S14336x1, .bf16⟩
  | 111 => ⟨S_, .i32⟩
  | 112 => ⟨S14336x2048, .i32⟩
  | 113 => ⟨S14336x2048, .i32⟩
  | 114 => ⟨S_, .i32⟩
  | 115 => ⟨S14336x2048, .i32⟩
  | 116 => ⟨S14336x2048, .i32⟩
  | 117 => ⟨S_, .i32⟩
  | 118 => ⟨S14336x2048, .i32⟩
  | 119 => ⟨S14336x2048, .i1⟩
  | 120 => ⟨S14336x2048, .bf16⟩
  | 121 => ⟨S14336x2048, .bf16⟩
  | 122 => ⟨S14336x2048, .bf16⟩
  | 123 => ⟨S14336x2048, .bf16⟩
  | 124 => ⟨S14336x2048, .bf16⟩
  | 125 => ⟨S14336x2048, .bf16⟩
  | 126 => ⟨S14336x2048, .bf16⟩
  | 127 => ⟨S14336x2048, .bf16⟩
  | _ => ⟨S3x1x4096, .bf16⟩

abbrev hbmTy0_1 (i : Nat) : BufTy := match i % 128 with
  | 0 => ⟨S14336x2048, .bf16⟩
  | 1 => ⟨S14336x2048, .bf16⟩
  | 2 => ⟨S14336x2048, .bf16⟩
  | 3 => ⟨S14336x2048, .bf16⟩
  | 4 => ⟨S14336x2048, .bf16⟩
  | 5 => ⟨S14336x2048, .bf16⟩
  | 6 => ⟨S14336x2048, .bf16⟩
  | 7 => ⟨S14336x2048, .bf16⟩
  | 8 => ⟨S14336x2048, .bf16⟩
  | 9 => ⟨S14336x2048, .bf16⟩
  | 10 => ⟨S14336x2048, .bf16⟩
  | 11 => ⟨S14336x2048, .bf16⟩
  | 12 => ⟨S14336x2048, .bf16⟩
  | 13 => ⟨S14336x2048, .bf16⟩
  | 14 => ⟨S14336x2048, .bf16⟩
  | 15 => ⟨S14336x2048, .bf16⟩
  | 16 => ⟨S_, .i32⟩
  | 17 => ⟨S14336x2048, .i32⟩
  | 18 => ⟨S14336x2048, .i32⟩
  | 19 => ⟨S_, .i32⟩
  | 20 => ⟨S14336x2048, .i32⟩
  | 21 => ⟨S14336x2048, .i32⟩
  | 22 => ⟨S_, .i32⟩
  | 23 => ⟨S14336x2048, .i32⟩
  | 24 => ⟨S14336x2048, .i1⟩
  | 25 => ⟨S14336x2048, .bf16⟩
  | 26 => ⟨S14336x2048, .bf16⟩
  | 27 => ⟨S14336x2048, .bf16⟩
  | 28 => ⟨S14336x2048, .bf16⟩
  | 29 => ⟨S_, .i32⟩
  | 30 => ⟨S14336x2048, .i32⟩
  | 31 => ⟨S14336x2048, .i32⟩
  | 32 => ⟨S_, .i32⟩
  | 33 => ⟨S14336x2048, .i32⟩
  | 34 => ⟨S14336x2048, .i32⟩
  | 35 => ⟨S_, .i32⟩
  | 36 => ⟨S14336x2048, .i32⟩
  | 37 => ⟨S14336x2048, .i1⟩
  | 38 => ⟨S14336x2048, .bf16⟩
  | 39 => ⟨S14336x2048, .bf16⟩
  | 40 => ⟨S_, .i32⟩
  | 41 => ⟨S14336x2048, .i32⟩
  | 42 => ⟨S14336x2048, .i32⟩
  | 43 => ⟨S_, .i32⟩
  | 44 => ⟨S14336x2048, .i32⟩
  | 45 => ⟨S14336x2048, .i32⟩
  | 46 => ⟨S_, .i32⟩
  | 47 => ⟨S14336x2048, .i32⟩
  | 48 => ⟨S14336x2048, .i1⟩
  | 49 => ⟨S14336x2048, .bf16⟩
  | 50 => ⟨S3x1x2048, .bf16⟩
  | 51 => ⟨S3x1x14336, .f32⟩
  | 52 => ⟨S3x1x2048, .bf16⟩
  | 53 => ⟨S3x1x14336, .f32⟩
  | 54 => ⟨S3x1x14336, .f32⟩
  | 55 => ⟨S3x1x14336, .bf16⟩
  | _ => ⟨S3x1x4096, .bf16⟩

abbrev hbmTy (i : Nat) : BufTy := match i / 128 with
  | 0 => hbmTy0_0 i
  | 1 => hbmTy0_1 i
  | _ => ⟨S3x1x4096, .bf16⟩

abbrev bufTy : (tb : Table) → Fin (tcTables nBuf tb) → BufTy
  | .hbm, ⟨i, _⟩ => hbmTy i
  | _, _ => ⟨S3x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_call1_v0 : Ref sig .tc := ⟨.hbm, 40, rfl⟩
abbrev main_call1_v1 : Ref sig .tc := ⟨.hbm, 41, rfl⟩
abbrev main_v30 : Ref sig .tc := ⟨.hbm, 42, rfl⟩
abbrev main_call2_v0 : Ref sig .tc := ⟨.hbm, 43, rfl⟩
abbrev main_call2_v1 : Ref sig .tc := ⟨.hbm, 44, rfl⟩
abbrev main_v31 : Ref sig .tc := ⟨.hbm, 45, rfl⟩
abbrev main_call3_v0 : Ref sig .tc := ⟨.hbm, 46, rfl⟩
abbrev main_call3_v1 : Ref sig .tc := ⟨.hbm, 47, rfl⟩
abbrev main_v32 : Ref sig .tc := ⟨.hbm, 48, rfl⟩
abbrev main_call4_v0 : Ref sig .tc := ⟨.hbm, 49, rfl⟩
abbrev main_call4_v1 : Ref sig .tc := ⟨.hbm, 50, rfl⟩
abbrev main_v33 : Ref sig .tc := ⟨.hbm, 51, rfl⟩
abbrev main_call5_v0 : Ref sig .tc := ⟨.hbm, 52, rfl⟩
abbrev main_call5_v1 : Ref sig .tc := ⟨.hbm, 53, rfl⟩
abbrev main_v34 : Ref sig .tc := ⟨.hbm, 54, rfl⟩
abbrev main_call6_v0 : Ref sig .tc := ⟨.hbm, 55, rfl⟩
abbrev main_call6_v1 : Ref sig .tc := ⟨.hbm, 56, rfl⟩
abbrev main_v35 : Ref sig .tc := ⟨.hbm, 57, rfl⟩
abbrev main_call7_v0 : Ref sig .tc := ⟨.hbm, 58, rfl⟩
abbrev main_call7_v1 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_call15_v0 : Ref sig .tc := ⟨.hbm, 120, rfl⟩
abbrev main_call15_v1 : Ref sig .tc := ⟨.hbm, 121, rfl⟩
abbrev main_v84 : Ref sig .tc := ⟨.hbm, 122, rfl⟩
abbrev main_call16_v0 : Ref sig .tc := ⟨.hbm, 123, rfl⟩
abbrev main_call16_v1 : Ref sig .tc := ⟨.hbm, 124, rfl⟩
abbrev main_v85 : Ref sig .tc := ⟨.hbm, 125, rfl⟩
abbrev main_call17_v0 : Ref sig .tc := ⟨.hbm, 126, rfl⟩
abbrev main_call17_v1 : Ref sig .tc := ⟨.hbm, 127, rfl⟩
abbrev main_v86 : Ref sig .tc := ⟨.hbm, 128, rfl⟩
abbrev main_call18_v0 : Ref sig .tc := ⟨.hbm, 129, rfl⟩
abbrev main_call18_v1 : Ref sig .tc := ⟨.hbm, 130, rfl⟩
abbrev main_v87 : Ref sig .tc := ⟨.hbm, 131, rfl⟩
abbrev main_call19_v0 : Ref sig .tc := ⟨.hbm, 132, rfl⟩
abbrev main_call19_v1 : Ref sig .tc := ⟨.hbm, 133, rfl⟩
abbrev main_v88 : Ref sig .tc := ⟨.hbm, 134, rfl⟩
abbrev main_call20_v0 : Ref sig .tc := ⟨.hbm, 135, rfl⟩
abbrev main_call20_v1 : Ref sig .tc := ⟨.hbm, 136, rfl⟩
abbrev main_v89 : Ref sig .tc := ⟨.hbm, 137, rfl⟩
abbrev main_call21_v0 : Ref sig .tc := ⟨.hbm, 138, rfl⟩
abbrev main_call21_v1 : Ref sig .tc := ⟨.hbm, 139, rfl⟩
abbrev main_v90 : Ref sig .tc := ⟨.hbm, 140, rfl⟩
abbrev main_call22_v0 : Ref sig .tc := ⟨.hbm, 141, rfl⟩
abbrev main_call22_v1 : Ref sig .tc := ⟨.hbm, 142, rfl⟩
abbrev main_v91 : Ref sig .tc := ⟨.hbm, 143, rfl⟩
abbrev main_c_16 : Ref sig .tc := ⟨.hbm, 144, rfl⟩
abbrev main_v92 : Ref sig .tc := ⟨.hbm, 145, rfl⟩
abbrev main_v93 : Ref sig .tc := ⟨.hbm, 146, rfl⟩
abbrev main_c_17 : Ref sig .tc := ⟨.hbm, 147, rfl⟩
abbrev main_v94 : Ref sig .tc := ⟨.hbm, 148, rfl⟩
abbrev main_v95 : Ref sig .tc := ⟨.hbm, 149, rfl⟩
abbrev main_c_18 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_19 : Ref sig .tc := ⟨.hbm, 157, rfl⟩
abbrev main_v102 : Ref sig .tc := ⟨.hbm, 158, rfl⟩
abbrev main_v103 : Ref sig .tc := ⟨.hbm, 159, rfl⟩
abbrev main_c_20 : Ref sig .tc := ⟨.hbm, 160, rfl⟩
abbrev main_v104 : Ref sig .tc := ⟨.hbm, 161, rfl⟩
abbrev main_v105 : Ref sig .tc := ⟨.hbm, 162, rfl⟩
abbrev main_c_21 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_22 : Ref sig .tc := ⟨.hbm, 168, rfl⟩
abbrev main_v110 : Ref sig .tc := ⟨.hbm, 169, rfl⟩
abbrev main_v111 : Ref sig .tc := ⟨.hbm, 170, rfl⟩
abbrev main_c_23 : Ref sig .tc := ⟨.hbm, 171, rfl⟩
abbrev main_v112 : Ref sig .tc := ⟨.hbm, 172, rfl⟩
abbrev main_v113 : Ref sig .tc := ⟨.hbm, 173, rfl⟩
abbrev main_c_24 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩

abbrev nD : Nat := 1
abbrev τ : Topo := Topo.v7x

variable {F : FTy → Type} [FloatOps F]
-- ==== Proof.Body.lean ====
/- One run of the idealized kernel's body at a grid point, from the five buffers it is given. -/
module

public import proofs.«01_k».proof.Proof.Gen.KernelIdeal.Frame
public import proofs.«01_k».proof.Proof.Gen.KernelIdeal.Skeleton

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The body run once: what it leaves in the output's buffer and in the scratch, from any contents of the five buffers, and that it
    runs to any continuation that takes the three read buffers unchanged and those two at what it left. -/
def bodyRun (𝒱₀ : Variants) (c : Dev nD) (i : grid0.Coords)
    (M1 : Memref sig .tc .vmem S3x4096 .bf16) (h1 : M1.IsWhole) (M2 : Memref sig .tc .vmem S512x2048 .i8) (h2 : M2.IsWhole)
    (M3 : Memref sig .tc .vmem S16x512 .i16) (h3 : M3.IsWhole) (M4 : Memref sig .tc .vmem S3x512 .bf16) (h4 : M4.IsWhole)
    (M5 : Memref sig .tc .vmem S16x4096 .bf16) (h5 : M5.IsWhole)
    (f1 : Bf (F := F) c M1) (f2 : Bf (F := F) c M2) (f3 : Bf (F := F) c M3) (f5 : Bf (F := F) c M5) :
    { W : Bf (F := F) c M4 × Bf (F := F) c M5 //
      ∀ (f4 : Bf (F := F) c M4) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W.1 ∗ pt c M5 W.2) -∗ Q ⟨⟩))
        ⊢ wp frame (wpE (defs₀ (F := F)) 𝒱₀ c none) E (cc0_any4_linear i M1 h1 M2 h2 M3 h3 M4 h4 M5 h5) Q } := by
  refine ⟨⟨?_, ?_⟩, fun f4 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.KernelIdeal.Gen

end
-- ==== Proof.Block.lean ====
/- What the idealized kernel's body computes at one grid point, named: the output block as a function of the weight block, the table
   block and the padded activations, in the operations the program itself uses. -/
module

public import proofs.«01_k».proof.Proof.Body

@[expose] public section

noncomputable section

namespace Cert.KernelIdeal.Gen

open Idealize.ShloMosaic Idealize.ShloMosaic.TcCoe
open Idealize.ShloMosaic.Rounds

variable {F : FTy → Type} [FloatOps F]

/-- A row selection of bytes, widened to the words a gather takes. -/
def rowWords (a : IVec S32x128 8) : IVec S32x128 32 :=
  shapeCast S32x128 (shapeCast S32x128x1 (extsi 32 a natLt_8_32) shapeCasts_S32x128_S32x128x1) shapeCasts_S32x128x1_S32x128

/-- Row `a r l` of column `l` of `tab`, at every row `r` and lane `l`. -/
def gatherRows (tab a : IVec S32x128 8) : IVec S32x128 8 := dynamicGather 0 tab (rowWords a)

/-- Lane `a r l` of row `r` of `x`, at every row `r` and lane `l`. -/
def gatherLanes {α : Type} (x : S8x128.Idx → α) (a : IVec S8x128 32) : S8x128.Idx → α :=
  dynamicGather 1 x (shapeCast S8x128 (shapeCast S8x128x1 a shapeCasts_S8x128_S8x128x1) shapeCasts_S8x128x1_S8x128)

/-- The lane number at every position. -/
def lanes : IVec S8x128 32 := iota .tc S8x128 32 [1] iota_S8x128_d1_w32

/-- The lane to take at lane `l`: `(2 l) mod 128 + par`. -/
def srcLanes (par : BitVec 32) : IVec S8x128 32 :=
  addi (andi (shli lanes (broadcast S8x128 1#32)) (broadcast S8x128 127#32)) (broadcast S8x128 par)

/-- The words of sixteen table entries of 128 columns. -/
def tableWords (t : IVec S16x128 16) : IVec S8x128 32 :=
  bitcast S8x128 32 (shapeCast S16x128 t shapeCasts_S16x128_S16x128) bitcasts_S16x128_w16_S8x128_w32

/-- The table of the columns of parity `par` of two neighbouring tiles, low bytes above high bytes. -/
def tableBytes (ta tb : IVec S16x128 16) (par : BitVec 32) : IVec S32x128 8 :=
  gatherRows (bitcast S32x128 8 (select (cmpi .slt lanes (broadcast S8x128 64#32)) (gatherLanes (tableWords ta) (srcLanes par))
    (gatherLanes (tableWords tb) (srcLanes par))) bitcasts_S8x128_w32_S32x128_w8) k0_pay6

/-- The weight tile transposed in pairs of rows. -/
def weightPairs (w : IVec S256x256 8) : IVec S256x128 16 :=
  transpose S256x128 [1, 0] (bitcast S128x256 16 (bitcast S64x256 32 w bitcasts_S256x256_w8_S64x256_w32) bitcasts_S64x256_w32_S128x256_w16)
    transposes_S128x256_p1_0_S256x128

/-- Sixteen rows of the transposed words, from row `16 g`, lie inside them. -/
theorem slicesGroup (g : Fin 16) : S256x128.Slices ![16 * g.val, 0] S16x128 := by
  refine ⟨rfl, fun a => ?_⟩
  match a with
  | ⟨0, _⟩ => have := g.isLt; show 16 * g.val + 16 ≤ 256; omega
  | ⟨1, _⟩ => show 0 + 128 ≤ 128; omega

/-- Rows `16 g` to `16 g + 15` of the transposed pairs, as bytes. -/
def groupBytes (u : IVec S256x128 16) (g : Fin 16) : IVec S32x128 8 :=
  bitcast S32x128 8 (bitcast S8x128 32 (extractStridedSlice S16x128 ![16 * g.val, 0] u (slicesGroup g)) bitcasts_S16x128_w16_S8x128_w32)
    bitcasts_S8x128_w32_S32x128_w8

/-- The low four bits of every byte looked up in the table. -/
def lookup (tab d : IVec S32x128 8) : FVec F S16x128 .bf16 :=
  bitcastToFloat .bf16 (bitcast S16x128 16 (bitcast S8x128 32 (gatherRows tab
    (ori (andi d (broadcast S32x128 15#8)) (shli k0_pay5 (broadcast S32x128 4#8)))) bitcasts_S32x128_w8_S8x128_w32) bitcasts_S8x128_w32_S16x128_w16)

/-- The high four bits of every byte moved down (what comes above them is the next byte's). -/
def highNibble (d : IVec S32x128 8) : IVec S32x128 8 :=
  bitcast S32x128 8 (shrui (bitcast S8x128 32 d bitcasts_S32x128_w8_S8x128_w32) (broadcast S8x128 4#32)) bitcasts_S8x128_w32_S32x128_w8

/-- Sixteen rows of the decoded low halves: the even columns, then the odd ones. -/
def lowRows (te tod : IVec S32x128 8) (u : IVec S256x128 16) (g : Fin 16) : FVec F S16x256 .bf16 :=
  concatenate S16x256 1 [⟨S16x128, lookup te (gatherRows (groupBytes u g) k0_pay3)⟩,
    ⟨S16x128, lookup tod (gatherRows (groupBytes u g) k0_pay4)⟩] concatenates_S16x128_S16x128_S16x256_d1

/-- Sixteen rows of the decoded high halves: the even columns, then the odd ones. -/
def highRows (te tod : IVec S32x128 8) (u : IVec S256x128 16) (g : Fin 16) : FVec F S16x256 .bf16 :=
  concatenate S16x256 1 [⟨S16x128, lookup te (highNibble (gatherRows (groupBytes u g) k0_pay3))⟩,
    ⟨S16x128, lookup tod (highNibble (gatherRows (groupBytes u g) k0_pay4))⟩] concatenates_S16x128_S16x128_S16x256_d1

/-- Sixteen groups of sixteen rows, one below the other. -/
def stackRows (r : Fin 16 → FVec F S16x256 .bf16) : FVec F S256x256 .bf16 :=
  concatenate S256x256 0 [⟨S16x256, r 0⟩, ⟨S16x256, r 1⟩, ⟨S16x256, r 2⟩, ⟨S16x256, r 3⟩, ⟨S16x256, r 4⟩, ⟨S16x256, r 5⟩,
    ⟨S16x256, r 6⟩, ⟨S16x256, r 7⟩, ⟨S16x256, r 8⟩, ⟨S16x256, r 9⟩, ⟨S16x256, r 10⟩, ⟨S16x256, r 11⟩, ⟨S16x256, r 12⟩,
    ⟨S16x256, r 13⟩, ⟨S16x256, r 14⟩, ⟨S16x256, r 15⟩]
    concatenates_S16x256_S16x256_S16x256_S16x256_S16x256_S16x256_S16x256_S16x256_S16x256_S16x256_S16x256_S16x256_S16x256_S16x256_S16x256_S16x256_S256x256_d0

/-- The product of 256 columns of the activations with 256 decoded rows. -/
def chunkProduct (x : FVec F S16x256 .bf16) (r : Fin 16 → FVec F S16x256 .bf16) : FVec F S16x256 .f32 :=
  matmul dot_S16x256_S256x256_S16x256_1_0_0_1_n_n none x (stackRows r) (constant S16x256 .f32 0x00000000#32)

/-- A window of 256 activations from column `o` lies inside the scratch. -/
theorem inbActs (o : Nat) (h : o + 256 ≤ 4096) : ∀ a, (![0, o] : Fin 2 → Nat) a + S16x256.size a ≤ S16x4096.size a := fun a => by
  match a with
  | ⟨0, _⟩ => show 0 + 16 ≤ 16; omega
  | ⟨1, _⟩ => exact h

/-- A 256 × 256 tile from row `r` and column `k` lies inside the block of weights. -/
theorem inbWeights (r k : Nat) (hr : r + 256 ≤ 512) (hk : k + 256 ≤ 2048) :
    ∀ a, (![r, k] : Fin 2 → Nat) a + S256x256.size a ≤ S512x2048.size a := fun a => by
  match a with
  | ⟨0, _⟩ => exact hr
  | ⟨1, _⟩ => exact hk

/-- A window of 128 table columns from column `o` lies inside the block of the table. -/
theorem inbTable (o : Nat) (h : o + 128 ≤ 512) : ∀ a, (![0, o] : Fin 2 → Nat) a + S16x128.size a ≤ S16x512.size a := fun a => by
  match a with
  | ⟨0, _⟩ => show 0 + 16 ≤ 16; omega
  | ⟨1, _⟩ => exact h

/-- 256 columns of the activations from column `o`. -/
def actCols (X : Vec F S16x4096 .bf16) (o : Nat) (h : o + 256 ≤ 4096) : FVec F S16x256 .bf16 :=
  View.ld X (Rect.unit ![0, o] S16x256.size (inbActs o h))

/-- The weight tile at row `r` and column `k`. -/
def weightTile (W : Vec F S512x2048 .i8) (r k : Nat) (hr : r + 256 ≤ 512) (hk : k + 256 ≤ 2048) : IVec S256x256 8 :=
  View.ld W (Rect.unit ![r, k] S256x256.size (inbWeights r k hr hk))

/-- The table tile at column `o`. -/
def tableTile (T : Vec F S16x512 .i16) (o : Nat) (h : o + 128 ≤ 512) : IVec S16x128 16 :=
  View.ld T (Rect.unit ![0, o] S16x128.size (inbTable o h))

/-- The table of the columns of parity `par` of half `nb` of the block. -/
def halfTable (T : Vec F S16x512 .i16) (nb : Fin 2) (par : BitVec 32) : IVec S32x128 8 :=
  tableBytes (tableTile T (256 * nb.val) (by omega)) (tableTile T (256 * nb.val + 128) (by omega)) par

/-- What chunk `kc` of the weights adds to half `nb` of the block. -/
def chunk (X : Vec F S16x4096 .bf16) (W : Vec F S512x2048 .i8) (T : Vec F S16x512 .i16) (nb : Fin 2) (kc : Fin 8) : FVec F S16x256 .f32 :=
  addf
    (chunkProduct (actCols X (256 * kc.val) (by omega)) (lowRows (halfTable T nb 0#32) (halfTable T nb 1#32)
      (weightPairs (weightTile W (256 * nb.val) (256 * kc.val) (by omega) (by omega)))))
    (chunkProduct (actCols X (2048 + 256 * kc.val) (by omega)) (highRows (halfTable T nb 0#32) (halfTable T nb 1#32)
      (weightPairs (weightTile W (256 * nb.val) (256 * kc.val) (by omega) (by omega)))))

/-- Half `nb` of the block, even columns before odd ones: the chunks added in order. -/
def halfSum (X : Vec F S16x4096 .bf16) (W : Vec F S512x2048 .i8) (T : Vec F S16x512 .i16) (nb : Fin 2) : FVec F S16x256 .f32 :=
  addf (addf (addf (addf (addf (addf (addf (chunk X W T nb 0) (chunk X W T nb 1)) (chunk X W T nb 2)) (chunk X W T nb 3)) (chunk X W T nb 4))
    (chunk X W T nb 5)) (chunk X W T nb 6)) (chunk X W T nb 7)

/-- Even and odd columns of a half put back in order: the tile whose columns come from lane `base` on. -/
def interleaved (acc : FVec F S16x256 .f32) (base : BitVec 32) : FVec F S3x128 .bf16 :=
  truncf .bf16 (extractStridedSlice S3x128 ![0, 0]
    (select (cmpi .eq (andi lanes (broadcast S8x128 1#32)) (broadcast S8x128 0#32))
      (gatherLanes (extractStridedSlice S8x128 ![0, 0] acc slices_S16x256_o0_0_S8x128)
        (addi (shrsi lanes (broadcast S8x128 1#32)) (broadcast S8x128 base)))
      (gatherLanes (extractStridedSlice S8x128 ![0, 128] acc slices_S16x256_o0_128_S8x128)
        (addi (shrsi lanes (broadcast S8x128 1#32)) (broadcast S8x128 base))))
    slices_S8x128_o0_0_S3x128) bitsLt_bf16_f32

/-- The output block as the body leaves it: the four tiles, each half's two. -/
def outBlock (X : Vec F S16x4096 .bf16) (W : Vec F S512x2048 .i8) (T : Vec F S16x512 .i16) : Vec F S3x512 .bf16 :=
  View.canon [⟨Rect.unit ![0, 384] S3x128.size inb_S3x512_S3x128_0_384, interleaved (halfSum X W T 1) 64#32⟩,
    ⟨Rect.unit ![0, 256] S3x128.size inb_S3x512_S3x128_0_256, interleaved (halfSum X W T 1) 0#32⟩,
    ⟨Rect.unit ![0, 128] S3x128.size inb_S3x512_S3x128_0_128, interleaved (halfSum X W T 0) 64#32⟩,
    ⟨Rect.unit ![0, 0] S3x128.size inb_S3x512_S3x128_0_0, interleaved (halfSum X W T 0) 0#32⟩]

/-- The activations as the first grid point stores them: three rows over rows of zeros. -/
def padActs (x : Vec F S3x4096 .bf16) : Vec F S16x4096 .bf16 :=
  View.canon [⟨Rect.unit ![0, 0] S4x4096.size inb_S16x4096_S4x4096_0_0,
      updateSlice (fun j => View.canon (Val := Elt F) (s := S16x4096) (e := .bf16)
          [⟨Rect.unit ![0, 0] S16x4096.size inb_S16x4096_S16x4096_0_0, k0_pay1⟩]
          ((Rect.unit (s := S16x4096) ![0, 0] S4x4096.size inb_S16x4096_S4x4096_0_0).toLoadRect.idx j))
        (k0_pay2 (View.ld x (Rect.unit ![0, 0] S3x4096.size inb_S3x4096_S3x4096_0_0))) ![0, 0] slices_S4x4096_S3x4096_0_0⟩,
    ⟨Rect.unit ![0, 0] S16x4096.size inb_S16x4096_S16x4096_0_0, k0_pay1⟩]

section Run

variable (𝒱₀ : Variants) (c : Dev nD) (i : grid0.Coords)
    (M1 : Memref sig .tc .vmem S3x4096 .bf16) (h1 : M1.IsWhole) (M2 : Memref sig .tc .vmem S512x2048 .i8) (h2 : M2.IsWhole)
    (M3 : Memref sig .tc .vmem S16x512 .i16) (h3 : M3.IsWhole) (M4 : Memref sig .tc .vmem S3x512 .bf16) (h4 : M4.IsWhole)
    (M5 : Memref sig .tc .vmem S16x4096 .bf16) (h5 : M5.IsWhole)
    (f1 : Bf (F := F) c M1) (f2 : Bf (F := F) c M2) (f3 : Bf (F := F) c M3) (f5 : Bf (F := F) c M5)

/-- The run leaves the output block of what it read: the activations as it leaves them in the scratch, the weights, the table. -/
theorem bodyRun_out : M4.view.read (Elt F) (bodyRun 𝒱₀ c i M1 h1 M2 h2 M3 h3 M4 h4 M5 h5 f1 f2 f3 f5).1.1
    = outBlock (M5.view.read (Elt F) (bodyRun 𝒱₀ c i M1 h1 M2 h2 M3 h3 M4 h4 M5 h5 f1 f2 f3 f5).1.2)
        (M2.view.read (Elt F) f2) (M3.view.read (Elt F) f3) :=
  (View.read_writes_junk_eq_canon M4.view (bodyRun.sl.H4_4 c i M1 M2 M3 M5 f1 f2 f3 f5)).trans rfl

/-- At the first grid point the run leaves the padded activations in the scratch; -/
theorem bodyRun_first (h : bodyRun.sl.v2 i = 1#1) :
    M5.view.read (Elt F) (bodyRun 𝒱₀ c i M1 h1 M2 h2 M3 h3 M4 h4 M5 h5 f1 f2 f3 f5).1.2 = padActs (M1.view.read (Elt F) f1) := by
  show M5.view.read (Elt F) (dite _ _ _) = _
  rw [dif_pos h, View.read_writes_eq_canon _ _ (_ :: bodyRun.sl.H5_1) fun y => ⟨_, List.mem_cons_of_mem _ (List.mem_singleton_self _), ?_⟩]
  · unfold bodyRun.sl.old
    rw [View.readCov_eq_canon']
    rfl
  · exact (Rect.mem_set_unit (inb := inb_S16x4096_S16x4096_0_0)).mpr fun a => match a with
    | ⟨0, h⟩ => ⟨Nat.zero_le _, (Nat.zero_add 16).symm ▸ (y ⟨0, h⟩).isLt⟩
    | ⟨1, h⟩ => ⟨Nat.zero_le _, (Nat.zero_add 4096).symm ▸ (y ⟨1, h⟩).isLt⟩

/-- at every other it leaves the scratch as it was. -/
theorem bodyRun_later (h : ¬ bodyRun.sl.v2 i = 1#1) :
    (bodyRun 𝒱₀ c i M1 h1 M2 h2 M3 h3 M4 h4 M5 h5 f1 f2 f3 f5).1.2 = f5 := by
  show dite _ _ _ = _
  rw [dif_neg h]

end Run

end Cert.KernelIdeal.Gen

end
-- ==== Proof.Frame.lean ====
/- The idealized kernel's run: what every grid point leaves in its output block, the padded activations the scratch holds from the
   first point on, the launch, and the frame claim. -/
module

public import proofs.«01_k».proof.Proof.Block
public import Idealize.ShloMosaic.Lib.Claim

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev firstPt : Fin cfg0.N := ⟨0, by decide⟩

/-- The body's branch is taken at the first grid point alone. -/
theorem first_iff : ∀ t : Fin cfg0.N, bodyRun.sl.v2 (grid0.coords t) = 1#1 ↔ t.val = 0 := by decide

/-- The activations' window is the same block at every point. -/
theorem iblk0_first (c : Dev nD) (t : Fin cfg0.N) : iblk m c 0 t = iblk m c 0 firstPt := rfl

/-- The padded activations on core `c`. -/
def acts (c : Dev nD) : Vec F S16x4096 .bf16 := padActs (iblk m c 0 firstPt)

/-- What grid point `t` leaves in the output's buffer. -/
def outAt (c : Dev nD) (t : Fin cfg0.N) : Vec F S3x512 .bf16 := outBlock (acts m c) (iblk m c 1 t) (iblk m c 2 t)

/-- The scratch before point `t`: at anything before the first, at the padded activations after it. -/
def scratchAt (c : Dev nD) (t : Fin (cfg0.N + 1)) : sProp 𝕄 :=
  iprop(∃ f : Bf (F := F) c (Memref.whole cc0_scratch0), ⌜t.val ≠ 0 → (Memref.whole cc0_scratch0).view.read (Elt F) f = acts m c⌝
    ∗ pt c (Memref.whole cc0_scratch0) f)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := iprop(scratchAt m c t ∗ ∃ r, prngReg c r)
  q _ := fullShare
  owed _ := 0

/-- Each window's array enters the region at what the host lines left in it. -/
theorem A_eq (c : Dev nD) (w : Fin cfg0.W) : (dats m 0 c).A w = V m c (Pipeline.arrRef spec0 w) := by dsimp only [dats]
/-- The activations' block is read only. -/
theorem after0_0 (c : Dev nD) (t : Fin cfg0.N) : (dats m 0 c).after 0 t = iblk m c 0 t := by dsimp only [dats]
/-- The weights' block is read only. -/
theorem after0_1 (c : Dev nD) (t : Fin cfg0.N) : (dats m 0 c).after 1 t = iblk m c 1 t := by dsimp only [dats]
/-- The table's block is read only. -/
theorem after0_2 (c : Dev nD) (t : Fin cfg0.N) : (dats m 0 c).after 2 t = iblk m c 2 t := by dsimp only [dats]
/-- The output's block after a point is what the body writes there. -/
theorem after0_3 (c : Dev nD) (t : Fin cfg0.N) : (dats m 0 c).after 3 t = outAt m c t := by dsimp only [dats]

/-- Before a point the activations' buffer holds the point's block. -/
theorem before0_0 (c : Dev nD) (t : Fin cfg0.N) (d) : (dats m 0 c).before 0 t d = iblk m c 0 t :=
  before0_0_of m (dats m 0 c) (A_eq m c 0) (after0_0 m c) t d
/-- Before a point the weights' buffer holds the point's block. -/
theorem before0_1 (c : Dev nD) (t : Fin cfg0.N) (d) : (dats m 0 c).before 1 t d = iblk m c 1 t :=
  before0_1_of m (dats m 0 c) (A_eq m c 1) (after0_1 m c) t d
/-- Before a point the table's buffer holds the point's block. -/
theorem before0_2 (c : Dev nD) (t : Fin cfg0.N) (d) : (dats m 0 c).before 2 t d = iblk m c 2 t :=
  before0_2_of m (dats m 0 c) (A_eq m c 2) (after0_2 m c) t d

/-- The body on whole memrefs that hold an activations block, a weight block and a table block: it runs to a continuation that has
    the scratch at the padded activations and the output at the block's value, if the scratch is at the padded activations at every
    point but the first. -/
theorem sound_kernel (c : Dev nD) (E : Set ℕ) (t : Fin cfg0.N)
    (M1 : Memref sig .tc .vmem S3x4096 .bf16) (h1 : M1.IsWhole) (M2 : Memref sig .tc .vmem S512x2048 .i8) (h2 : M2.IsWhole)
    (M3 : Memref sig .tc .vmem S16x512 .i16) (h3 : M3.IsWhole) (M4 : Memref sig .tc .vmem S3x512 .bf16) (h4 : M4.IsWhole)
    (x1 : Vec F S3x4096 .bf16) (x2 : Vec F S512x2048 .i8) (x3 : Vec F S16x512 .i16) (hx : padActs x1 = acts m c) (K : PUnit → sProp 𝕄) :
    iprop(scratchAt m c t.castSucc ∗ owns (c : Thread nD τ) M1 fullShare x1 ∗ owns (c : Thread nD τ) M2 fullShare x2
        ∗ owns (c : Thread nD τ) M3 fullShare x3 ∗ (∃ d, owns (c : Thread nD τ) M4 fullShare d)
        ∗ (iprop(scratchAt m c t.succ ∗ owns (c : Thread nD τ) M1 fullShare x1 ∗ owns (c : Thread nD τ) M2 fullShare x2
            ∗ owns (c : Thread nD τ) M3 fullShare x3 ∗ owns (c : Thread nD τ) M4 fullShare (outBlock (acts m c) x2 x3)) -∗ K ⟨⟩))
      ⊢ wp frame (wpE (defs₀ (F := F)) Variants.none c none) E
          (cc0_any4_linear (grid0.coords t) M1 h1 M2 h2 M3 h3 M4 h4 (Memref.whole cc0_scratch0) (Memref.isWhole_whole _)) K := by
  unfold owns scratchAt
  simp only [h1.set_eq_univ, h2.set_eq_univ, h3.set_eq_univ, h4.set_eq_univ]
  iintro ⟨⟨%f5, %hf5, H5⟩, ⟨%f1, %hf1, H1⟩, ⟨%f2, %hf2, H2⟩, ⟨%f3, %hf3, H3⟩, ⟨%d4, %f4, -, H4⟩, Hk⟩
  have hs : (Memref.whole cc0_scratch0).view.read (Elt F)
      (bodyRun Variants.none c (grid0.coords t) M1 h1 M2 h2 M3 h3 M4 h4 (Memref.whole cc0_scratch0) (Memref.isWhole_whole _) f1 f2 f3 f5).1.2 = acts m c := by
    by_cases ht : bodyRun.sl.v2 (grid0.coords t) = 1#1
    · rw [bodyRun_first (h := ht), hf1, hx]
    · rw [bodyRun_later (h := ht)]
      exact hf5 fun h0 => ht ((first_iff t).mpr h0)
  have ho := bodyRun_out Variants.none c (grid0.coords t) M1 h1 M2 h2 M3 h3 M4 h4 (Memref.whole cc0_scratch0) (Memref.isWhole_whole _) f1 f2 f3 f5
  rw [hs, hf2, hf3] at ho
  iapply ((bodyRun Variants.none c (grid0.coords t) M1 h1 M2 h2 M3 h3 M4 h4 (Memref.whole cc0_scratch0) (Memref.isWhole_whole _) f1 f2 f3 f5).2 f4 E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H5]
  · iexists _; isplitr; swap; · iexact H5
    ipureintro; exact fun _ => hs
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  iexists _; isplitr; swap; · iexact H4
  ipureintro; exact ho

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.castSucc = iprop(scratchAt m c t.castSucc ∗ ∃ r, prngReg c r) from rfl,
    show (dats m 0 c).Φ t.succ = iprop(scratchAt m c t.succ ∗ ∃ r, prngReg c r) from rfl,
    after0_0, after0_1, after0_2, after0_3]
  iintro ⟨⟨HS, Hg⟩, Ho, ⟨%d0, H0⟩, ⟨%d1, H1⟩, ⟨%d2, H2⟩, ⟨%d3, H3⟩⟩
  iapply (sound_kernel m c Set.univ t _ _ _ _ _ _ _ _ (iblk m c 0 t) (iblk m c 1 t) (iblk m c 2 t) rfl _)
  isplitl [HS]; · iexact HS
  isplitl [H0]; · iexact H0
  isplitl [H1]; · iexact H1
  isplitl [H2]; · iexact H2
  isplitl [H3]; · iexists _; iexact H3
  iintro ⟨HS, H0, H1, H2, H3⟩
  isplitl [HS Hg]
  · isplitl [HS]; · iexact HS
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region is entered with gives the invariant before the first point, -/
theorem enter (c : Dev nD) : (Pipeline.ΦA spec0 c : sProp 𝕄) ⊢ (dats m 0 c).Φ 0 := by
  rw [show (dats m 0 c).Φ 0 = iprop(scratchAt m c 0 ∗ ∃ r, prngReg c r) from rfl]
  unfold Pipeline.ΦA scratchAt; rw [scopedRest0_eq]
  iintro ⟨⟨%f, H⟩, Hg⟩
  isplitl [H]
  · iexists f; isplitr; swap; · iexact H
    ipureintro; exact fun h => absurd rfl h
  iexact Hg

/-- and the invariant after the last gives what the region is left with. -/
theorem leave (c : Dev nD) : (dats m 0 c).Φ (Fin.last cfg0.N) ⊢ (Pipeline.ΦA spec0 c : sProp 𝕄) := by
  rw [show (dats m 0 c).Φ (Fin.last cfg0.N) = iprop(scratchAt m c (Fin.last cfg0.N) ∗ ∃ r, prngReg c r) from rfl]
  unfold Pipeline.ΦA scratchAt; rw [scopedRest0_eq]
  iintro ⟨⟨%f, -, H⟩, Hg⟩
  isplitl [H]; · iexists f; iexact H
  iexact Hg

/-- The buffers after the run and the host line behind the region. -/
abbrev tail (c : Dev nD) (b : Ref sig .tc) : Buf (Elt F) ((c : Thread nD τ).loc b) :=
  Pipeline.afterTail₀ cfgs (dats m) 0 (V0 m) [hostOps1] c b

-- the launch theorem's implicit arguments are found by unifying its conclusion with this one, which takes unfolding plain
-- definitions in a metavariable's type
set_option backward.isDefEq.respectTransparency.types false in
/-- THE LAUNCH: the run ends with every array at what the proof data say, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Kernel.lean ====
/- The frame of the kernel as it is printed. Its text and the idealized kernel's are the same text under two names, so the frame
   proved of the one, for floats of any kind, is the frame of the other. -/
module

public import proofs.«01_k».proof.Proof.Frame
public import proofs.«01_k».proof.Proof.Gen.Kernel
public import proofs.«01_k».proof.Defs

@[expose] public section

namespace Cert.Frames

open Idealize.ShloMosaic Idealize.SL.Sem

/-- The idealized kernel runs, leaves its arguments unchanged and every semaphore counter at zero. -/
theorem kernelIdeal : Cert.quiescent_KernelIdeal := fun m g _ => Cert.KernelIdeal.Gen.frame_run m g

variable {F : FTy → Type} [FloatOps F]

/-- The kernel's host lines are the idealized kernel's. -/
theorem main_same : Cert.Kernel.main (F := F) = Cert.KernelIdeal.main (F := F) := rfl

/-- So is its body, -/
theorem body_same : @Cert.Kernel.cc0_any4_linear F _ _ = @Cert.KernelIdeal.cc0_any4_linear F _ _ := rfl

/-- the table that names it, -/
theorem table_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

/-- and the table with the pipeline's labels. -/
theorem defs_same : Cert.Kernel.defs (F := F) = Cert.KernelIdeal.defs (F := F) :=
  congrArg (Pipeline.defs (Cert.KernelIdeal.pcfgs (F := F))) table_same

/-- The kernel runs, leaves its arguments unchanged and every semaphore counter at zero. -/
theorem kernel : Cert.quiescent_Kernel := fun m g _ => by
  have h := Cert.KernelIdeal.Gen.frame_run (F := Bits) m g
  rw [← defs_same] at h
  exact h

end Cert.Frames
-- ==== Proof.Reference.lean ====
/- The reference: its run, its frame, and its result at an index — the sum over the low halves' columns of activation times table
   entry plus the same over the high halves'. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.ValueIdx
public import Idealize.ShloMosaic.Lib.Quiescent

@[expose] public section

noncomputable section

namespace Cert.ReferenceIdeal.Decode

open Idealize.ShloMosaic Idealize.ShloMosaic.ValueIdx Idealize.ShloMosaic.TcCoe Idealize.SL.Sem Cert.ReferenceIdeal.Gen
open scoped BigOperators

/-- The reference runs, leaves its arguments unchanged and every semaphore counter at zero. -/
theorem frame : Cert.quiescent_ReferenceIdeal := fun m g _ =>
  (θ_run _ _ _).mono (fun r h => ⟨fun c => ⟨(h c).2.1, (h c).2.2.1, (h c).2.2.2⟩, sem_eq_zero_of_no_sems rfl r.2⟩)
    (Cert.ReferenceIdeal.Value.run m g)

variable {F : FTy → Type} [FloatOps F]

/-- One word everywhere. -/
def splat (v : BitVec 32) : IVec S14336x2048 32 := broadcastInDim S14336x2048 ![] bcast_S_S14336x2048 (constantI S_ 32 v)

/-- Bit `b` of every code, as a condition. -/
def bitIs (c : IVec S14336x2048 32) (b : BitVec 32) : IVec S14336x2048 1 :=
  cmpi .eq (andi (Host.shrsi c (splat b)) (splat 1#32)) (splat 1#32)

/-- Column `k` of the table, along every row. -/
def column (T : FVec F S14336x16 .bf16) (k : Nat) (h : S14336x16.Slices ![0, k] S14336x1) : FVec F S14336x2048 .bf16 :=
  broadcastInDim S14336x2048 ![0, 1] bcast_S14336x1_S14336x2048_0_1 (extractStridedSlice S14336x1 ![0, k] T h)

/-- The tree of selects over the four bits. -/
def tree (c : IVec S14336x2048 32) (T : FVec F S14336x16 .bf16) : FVec F S14336x2048 .bf16 :=
  select (bitIs c 3#32)
    (select (bitIs c 2#32)
      (select (bitIs c 1#32)
        (select (bitIs c 0#32) (column T 15 slices_S14336x16_S14336x1_0_15) (column T 14 slices_S14336x16_S14336x1_0_14))
        (select (bitIs c 0#32) (column T 13 slices_S14336x16_S14336x1_0_13) (column T 12 slices_S14336x16_S14336x1_0_12)))
      (select (bitIs c 1#32)
        (select (bitIs c 0#32) (column T 11 slices_S14336x16_S14336x1_0_11) (column T 10 slices_S14336x16_S14336x1_0_10))
        (select (bitIs c 0#32) (column T 9 slices_S14336x16_S14336x1_0_9) (column T 8 slices_S14336x16_S14336x1_0_8))))
    (select (bitIs c 2#32)
      (select (bitIs c 1#32)
        (select (bitIs c 0#32) (column T 7 slices_S14336x16_S14336x1_0_7) (column T 6 slices_S14336x16_S14336x1_0_6))
        (select (bitIs c 0#32) (column T 5 slices_S14336x16_S14336x1_0_5) (column T 4 slices_S14336x16_S14336x1_0_4)))
      (select (bitIs c 1#32)
        (select (bitIs c 0#32) (column T 3 slices_S14336x16_S14336x1_0_3) (column T 2 slices_S14336x16_S14336x1_0_2))
        (select (bitIs c 0#32) (column T 1 slices_S14336x16_S14336x1_0_1) (column T 0 slices_S14336x16_S14336x1_0_0))))

/-- The low halves' weights are the tree at the low codes; -/
theorem low_eq (x1 : Vec F S14336x2048 .i8) (x2 : Vec F S14336x16 .i16) :
    Read.val_main_v61 (F := F) x1 x2 = tree (Read.val_main_v2 (F := F) x1) (Read.val_main_v6 (F := F) x2) := rfl

/-- the high halves', at the high codes. -/
theorem high_eq (x1 : Vec F S14336x2048 .i8) (x2 : Vec F S14336x16 .i16) :
    Read.val_main_v116 (F := F) x1 x2 = tree (Read.val_main_v5 (F := F) x1) (Read.val_main_v6 (F := F) x2) := rfl

/-- A constant array holds its constant everywhere. -/
theorem splat_apply (v : BitVec 32) (i : S14336x2048.Idx) : splat v i = v :=
  broadcastInDim_apply _ bcast_S_S14336x2048 (constantI S_ 32 v) i (fun a => a.elim0) (fun a => a.elim0)

/-- The bit test of a code, read at an index. -/
theorem bitIs_apply (c : IVec S14336x2048 32) (b : BitVec 32) (i : S14336x2048.Idx) :
    bitIs c b i = IntOp.cmpi .eq (IntOp.andi (IntOp.shrsi .host (c i) b) 1#32) 1#32 := by
  show IntOp.cmpi .eq (IntOp.andi (IntOp.shrsi .host (c i) (splat b i)) (splat 1#32 i)) (splat 1#32 i) = _
  rw [splat_apply, splat_apply]

/-- A column of the table, read at an index. -/
theorem column_apply (T : FVec F S14336x16 .bf16) (k : Nat) (h : S14336x16.Slices ![0, k] S14336x1) (hk : k < 16)
    (n : Fin 14336) (j : Fin 2048) : column T k h (ix2 n j) = T (ix2 n ⟨k, hk⟩) := by
  unfold column
  rw [broadcastInDim_apply _ bcast_S14336x1_S14336x2048_0_1 _ (ix2 n j) (ix2 n (0 : Fin 1)) (fun a => match a with
    | ⟨0, _⟩ => rfl
    | ⟨1, _⟩ => rfl)]
  exact extractStridedSlice_apply ![0, k] T h (ix2 n (0 : Fin 1)) (ix2 n ⟨k, hk⟩) (fun a => match a with
    | ⟨0, _⟩ => (Nat.zero_add _).symm
    | ⟨1, _⟩ => rfl)

/-- The tree at a code below sixteen is the table's entry at the code. -/
theorem tree_apply (c : IVec S14336x2048 32) (T : FVec F S14336x16 .bf16) (n : Fin 14336) (j : Fin 2048) (k : Fin 16)
    (hk : c (ix2 n j) = BitVec.ofNat 32 k.val) : tree c T (ix2 n j) = T (ix2 n k) := by
  simp only [tree, select_apply, bitIs_apply, hk]
  simp only [column_apply T _ _ (by decide : 15 < 16), column_apply T _ _ (by decide : 14 < 16), column_apply T _ _ (by decide : 13 < 16),
    column_apply T _ _ (by decide : 12 < 16), column_apply T _ _ (by decide : 11 < 16), column_apply T _ _ (by decide : 10 < 16),
    column_apply T _ _ (by decide : 9 < 16), column_apply T _ _ (by decide : 8 < 16), column_apply T _ _ (by decide : 7 < 16),
    column_apply T _ _ (by decide : 6 < 16), column_apply T _ _ (by decide : 5 < 16), column_apply T _ _ (by decide : 4 < 16),
    column_apply T _ _ (by decide : 3 < 16), column_apply T _ _ (by decide : 2 < 16), column_apply T _ _ (by decide : 1 < 16),
    column_apply T _ _ (by decide : 0 < 16)]
  generalize (fun q : Fin 16 => T (ix2 n q)) = f
  fin_cases k <;> rfl

/-- A byte's low four bits as an index, -/
def low (b : BitVec 8) : Fin 16 := ⟨b.toNat % 16, Nat.mod_lt _ (by decide)⟩
/-- and its high four. -/
def high (b : BitVec 8) : Fin 16 := ⟨b.toNat / 16, Nat.div_lt_of_lt_mul b.isLt⟩

/-- The low four bits of a byte, as a 32-bit integer. -/
theorem low_code (b : BitVec 8) : IntOp.andi (b.setWidth 32) 15#32 = BitVec.ofNat 32 (low b).val := by
  revert b; decide
/-- The high four bits of a byte, as a 32-bit integer. -/
theorem high_code (b : BitVec 8) : IntOp.shrsi .host (b.setWidth 32) 4#32 = BitVec.ofNat 32 (high b).val := by
  revert b; decide

/-- Entry `k` of row `n` of the table: the value of its word. -/
def entry (x2 : Vec F S14336x16 .i16) (n : Fin 14336) (k : Fin 16) : F .bf16 := FloatOps.ofBits .bf16 (x2 (ix2 n k))

/-- A weight of a low half is the table's entry at the byte's low four bits, -/
theorem low_apply (x1 : Vec F S14336x2048 .i8) (x2 : Vec F S14336x16 .i16) (n : Fin 14336) (j : Fin 2048) :
    Read.val_main_v61 (F := F) x1 x2 (ix2 n j) = entry x2 n (low (x1 (ix2 n j))) := by
  rw [low_eq, tree_apply _ _ n j (low (x1 (ix2 n j)))]
  · rfl
  · rw [Read.val_main_v2_apply, Read.val_main_v0_apply, Read.val_main_v1_apply, Read.val_main_c_apply, low_code]

/-- and one of a high half, the entry at its high four bits. -/
theorem high_apply (x1 : Vec F S14336x2048 .i8) (x2 : Vec F S14336x16 .i16) (n : Fin 14336) (j : Fin 2048) :
    Read.val_main_v116 (F := F) x1 x2 (ix2 n j) = entry x2 n (high (x1 (ix2 n j))) := by
  rw [high_eq, tree_apply _ _ n j (high (x1 (ix2 n j)))]
  · rfl
  · rw [Read.val_main_v5_apply, Read.val_main_v3_apply, Read.val_main_v4_apply, Read.val_main_c_0_apply, high_code]

/-- THE VALUE: the activations' row `r` against the weights' row `n`. -/
def spec (x0 : Vec Ideal S3x1x4096 .bf16) (x1 : Vec Ideal S14336x2048 .i8) (x2 : Vec Ideal S14336x16 .i16) (r : Fin 3) (n : Fin 14336) : EReal :=
  (∑ k : Fin 2048, x0 (ix3 r (0 : Fin 1) (⟨k.val, by omega⟩ : Fin 4096)) * entry (F := Ideal) x2 n (low (x1 (ix2 n k))))
    + ∑ k : Fin 2048, x0 (ix3 r (0 : Fin 1) (⟨2048 + k.val, by omega⟩ : Fin 4096)) * entry (F := Ideal) x2 n (high (x1 (ix2 n k)))

/-- The reference's result at an index. -/
theorem result_apply (x0 : Vec Ideal S3x1x4096 .bf16) (x1 : Vec Ideal S14336x2048 .i8) (x2 : Vec Ideal S14336x16 .i16) (r : Fin 3) (n : Fin 14336) :
    Read.val_main_v122 (F := Ideal) x0 x1 x2 (ix3 r (0 : Fin 1) n) = spec x0 x1 x2 r n := by
  rw [Read.val_main_v122_apply, Read.val_main_v121_apply, Read.val_main_v118_apply, Read.val_main_v120_apply]
  show _ + _ = _
  refine congrArg₂ (· + ·) (Finset.sum_congr rfl fun k _ => ?_) (Finset.sum_congr rfl fun k _ => ?_)
  · rw [Read.val_main_v117_apply]
    refine congrArg₂ (· * ·) (congrArg x0 ?_) ?_
    · funext a; match a with | ⟨0, _⟩ => rfl | ⟨1, _⟩ => rfl | ⟨2, _⟩ => rfl
    · rw [← low_apply]; refine congrArg _ ?_
      funext a; match a with | ⟨0, _⟩ => rfl | ⟨1, _⟩ => rfl
  · rw [Read.val_main_v119_apply]
    refine congrArg₂ (· * ·) (congrArg x0 ?_) ?_
    · funext a; match a with | ⟨0, _⟩ => rfl | ⟨1, _⟩ => rfl | ⟨2, _⟩ => rfl
    · rw [← high_apply]; refine congrArg _ ?_
      funext a; match a with | ⟨0, _⟩ => rfl | ⟨1, _⟩ => rfl

end Cert.ReferenceIdeal.Decode

end
-- ==== Proof.Words.lean ====
/- Bytes and words of one block: which byte of the weights and which word of the table an element of the decoded rows is read from. -/
module

public import proofs.«01_k».proof.Proof.Block
public import Idealize.ShloMosaic.Lib.BitcastFour
public import Idealize.ShloMosaic.Lib.ValueIdx
public import Idealize.ShloMosaic.Lib.Pipeline.Value

@[expose] public section

noncomputable section

namespace Cert.KernelIdeal.Gen

open Idealize.ShloMosaic Idealize.ShloMosaic.ValueIdx

variable {F : FTy → Type} [FloatOps F]

/-- A reinterpretation keeps every bit of a column at its place: bit `q` of row `a` at width `w` is bit `k` of row `p` at width `v`
    where the two places are one. -/
theorem bits_ix2 {R r n v w : Nat} (x : (⟨2, ![R, n]⟩ : Shape).Idx → BitVec v) (h : (⟨2, ![R, n]⟩ : Shape).Bitcasts v ⟨2, ![r, n]⟩ w)
    (a : Fin r) (l : Fin n) (q : Nat) (hq : q < w) (p : Fin R) (k : Nat) (hk : k < v) (hp : a.val * w + q = p.val * v + k) :
    (bitcast ⟨2, ![r, n]⟩ w x h (ix2 a l)).getLsbD q = (x (ix2 p l)).getLsbD k := by
  have hv : 0 < v := by omega
  rw [bitcast_getLsbD x h _ q hq hv]
  have e0 : (⟨2, ![r, n]⟩ : Shape).row (ix2 a l) = a.val := rfl
  have e1 : ((⟨2, ![r, n]⟩ : Shape).row (ix2 a l) * w + q) / v = p.val := by
    rw [e0, hp, Nat.mul_comm, Nat.mul_add_div hv, Nat.div_eq_of_lt hk, Nat.add_zero]
  have e2 : ((⟨2, ![r, n]⟩ : Shape).row (ix2 a l) * w + q) % v = k := by
    rw [e0, hp, Nat.mul_comm, Nat.mul_add_mod, Nat.mod_eq_of_lt hk]
  refine congrArg₂ (fun (y : BitVec v) i => y.getLsbD i) (congrArg x (funext fun c => ?_)) e2
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The widened row selection is the selection's byte. -/
theorem rowWords_apply (a : IVec S32x128 8) (s : Fin 32) (l : Fin 128) : rowWords a (ix2 s l) = (a (ix2 s l)).signExtend 32 := by
  unfold rowWords
  rw [shapeCast_shapeCast]
  rfl

/-- The row number at a position. -/
theorem rows_apply (s : Fin 32) (l : Fin 128) : iota .tc S32x128 32 [0] iota_S32x128_d0_w32 (ix2 s l) = BitVec.ofNat 32 s.val :=
  iota_single_apply .tc S32x128 32 0 iota_S32x128_d0_w32 (ix2 s l)
/-- The lane number at a position. -/
theorem lanes_apply (r : Fin 8) (p : Fin 128) : lanes (ix2 r p) = BitVec.ofNat 32 p.val :=
  iota_single_apply .tc S8x128 32 1 iota_S8x128_d1_w32 (ix2 r p)

/-- A row number below 32 comes back from its byte. -/
theorem row_back : ∀ y : Fin 32, ((BitVec.ofNat 8 y.val).signExtend 32).toNat % 32 = y.val := by decide
/-- A lane number below 128 comes back from its word. -/
theorem lane_back : ∀ y : Fin 128, (BitVec.ofNat 32 y.val).toNat % 128 = y.val := by decide

/-- A selected row, the selection's byte below 32. -/
theorem gatherRows_apply (tab a : IVec S32x128 8) (s : Fin 32) (l : Fin 128) (y : Fin 32) (hy : a (ix2 s l) = BitVec.ofNat 8 y.val) :
    gatherRows tab a (ix2 s l) = tab (ix2 y l) := by
  show tab _ = _
  refine congrArg tab (funext fun b => ?_)
  match b with
  | ⟨0, _⟩ =>
    refine Fin.ext ?_
    show (rowWords a (ix2 s l)).toNat % 32 = y.val
    rw [rowWords_apply, hy]
    exact row_back y
  | ⟨1, _⟩ => rfl

/-- The even rows' selection: a row's even partner. -/
theorem pay3_apply (s : Fin 32) (l : Fin 128) : k0_pay3 (ix2 s l) = BitVec.ofNat 8 (2 * (s.val / 2)) := by
  show (IntOp.andi (iota .tc S32x128 32 [0] iota_S32x128_d0_w32 (ix2 s l)) 4294967294#32).setWidth 8 = _
  rw [rows_apply]
  revert s; decide
/-- The odd rows' selection: a row's odd partner. -/
theorem pay4_apply (s : Fin 32) (l : Fin 128) : k0_pay4 (ix2 s l) = BitVec.ofNat 8 (2 * (s.val / 2) + 1) := by
  show (IntOp.ori (iota .tc S32x128 32 [0] iota_S32x128_d0_w32 (ix2 s l)) 1#32).setWidth 8 = _
  rw [rows_apply]
  revert s; decide
/-- A row's parity. -/
theorem pay5_apply (s : Fin 32) (l : Fin 128) : k0_pay5 (ix2 s l) = BitVec.ofNat 8 (s.val % 2) := by
  show (IntOp.andi (iota .tc S32x128 32 [0] iota_S32x128_d0_w32 (ix2 s l)) 1#32).setWidth 8 = _
  rw [rows_apply]
  revert s; decide
/-- The selection that puts the low bytes above the high ones. -/
theorem pay6_apply (s : Fin 32) (l : Fin 128) : k0_pay6 (ix2 s l) = BitVec.ofNat 8 (2 * (s.val % 16) + s.val / 16) := by
  show (IntOp.ori (IntOp.shli .vector (IntOp.andi (iota .tc S32x128 32 [0] iota_S32x128_d0_w32 (ix2 s l)) 15#32) 1#32)
    (IntOp.shrsi .vector (iota .tc S32x128 32 [0] iota_S32x128_d0_w32 (ix2 s l)) 4#32)).setWidth 8 = _
  rw [rows_apply]
  revert s; decide

/-- Bit `q` of the transposed pairs: a bit of the weights' row `2 p` or `2 p + 1`. -/
theorem weightPairs_bits (w : IVec S256x256 8) (k : Fin 256) (p : Fin 128) (b : Fin 2) (q : Nat) (hq : q < 8) :
    (weightPairs w (ix2 k p)).getLsbD (8 * b.val + q) = (w (ix2 (⟨2 * p.val + b.val, by omega⟩ : Fin 256) k)).getLsbD q := by
  unfold weightPairs
  rw [transpose_apply (t := S256x128) (s := S128x256) _ _ _ (ix2 k p) (ix2 p k) (fun a => match a with
    | ⟨0, _⟩ => rfl
    | ⟨1, _⟩ => rfl)]
  have hb := b.isLt
  have hp := p.isLt
  rw [bits_ix2 _ bitcasts_S64x256_w32_S128x256_w16 p k (8 * b.val + q) (by omega) (⟨p.val / 2, by omega⟩ : Fin 64)
      (16 * (p.val % 2) + 8 * b.val + q) (by omega) (by show p.val * 16 + _ = p.val / 2 * 32 + _; omega),
    bits_ix2 _ bitcasts_S256x256_w8_S64x256_w32 _ k _ (by omega) (⟨2 * p.val + b.val, by omega⟩ : Fin 256) q hq
      (by show p.val / 2 * 32 + _ = (2 * p.val + b.val) * 8 + q; omega)]

/-- A byte of a group: the weights' byte at row `2 p + (s mod 2)` and column `16 g + s / 2`. -/
theorem groupBytes_apply (w : IVec S256x256 8) (g : Fin 16) (s : Fin 32) (p : Fin 128) :
    groupBytes (weightPairs w) g (ix2 s p)
      = w (ix2 (⟨2 * p.val + s.val % 2, by omega⟩ : Fin 256) (⟨16 * g.val + s.val / 2, by omega⟩ : Fin 256)) := by
  refine BitVec.eq_of_getLsbD_eq fun q hq => ?_
  have hs := s.isLt
  unfold groupBytes
  rw [bits_ix2 _ bitcasts_S8x128_w32_S32x128_w8 s p q hq (⟨s.val / 4, by omega⟩ : Fin 8) (8 * (s.val % 4) + q) (by omega)
      (by show s.val * 8 + q = s.val / 4 * 32 + _; omega),
    bits_ix2 _ bitcasts_S16x128_w16_S8x128_w32 _ p _ (by omega) (⟨s.val / 2, by omega⟩ : Fin 16) (8 * (s.val % 2) + q) (by omega)
      (by show s.val / 4 * 32 + _ = s.val / 2 * 16 + _; omega),
    extractStridedSlice_apply _ _ (slicesGroup g) _ (ix2 (⟨16 * g.val + s.val / 2, by omega⟩ : Fin 256) p) (fun a => match a with
      | ⟨0, _⟩ => rfl
      | ⟨1, _⟩ => (Nat.zero_add _).symm)]
  exact weightPairs_bits w _ p ⟨s.val % 2, by omega⟩ q hq

/-- The even rows of a group, each twice. -/
theorem groupEven_apply (w : IVec S256x256 8) (g : Fin 16) (s : Fin 32) (p : Fin 128) :
    gatherRows (groupBytes (weightPairs w) g) k0_pay3 (ix2 s p)
      = w (ix2 (⟨2 * p.val, by omega⟩ : Fin 256) (⟨16 * g.val + s.val / 2, by omega⟩ : Fin 256)) := by
  have hs := s.isLt
  rw [gatherRows_apply _ _ s p ⟨2 * (s.val / 2), by omega⟩ (pay3_apply s p), groupBytes_apply]
  refine congrArg w (congrArg₂ ix2 (Fin.ext ?_) (Fin.ext ?_))
  · show 2 * p.val + 2 * (s.val / 2) % 2 = 2 * p.val; omega
  · show 16 * g.val + 2 * (s.val / 2) / 2 = 16 * g.val + s.val / 2; omega

/-- The odd rows of a group, each twice. -/
theorem groupOdd_apply (w : IVec S256x256 8) (g : Fin 16) (s : Fin 32) (p : Fin 128) :
    gatherRows (groupBytes (weightPairs w) g) k0_pay4 (ix2 s p)
      = w (ix2 (⟨2 * p.val + 1, by omega⟩ : Fin 256) (⟨16 * g.val + s.val / 2, by omega⟩ : Fin 256)) := by
  have hs := s.isLt
  rw [gatherRows_apply _ _ s p ⟨2 * (s.val / 2) + 1, by omega⟩ (pay4_apply s p), groupBytes_apply]
  refine congrArg w (congrArg₂ ix2 (Fin.ext ?_) (Fin.ext ?_))
  · show 2 * p.val + (2 * (s.val / 2) + 1) % 2 = 2 * p.val + 1; omega
  · show 16 * g.val + (2 * (s.val / 2) + 1) / 2 = 16 * g.val + s.val / 2; omega

/-- The low four bits of a byte moved down are its high four. -/
theorem highNibble_bits (d : IVec S32x128 8) (s : Fin 32) (p : Fin 128) (q : Nat) (hq : q < 4) :
    (highNibble d (ix2 s p)).getLsbD q = (d (ix2 s p)).getLsbD (4 + q) := by
  have hs := s.isLt
  unfold highNibble
  rw [bits_ix2 _ bitcasts_S8x128_w32_S32x128_w8 s p q (by omega) (⟨s.val / 4, by omega⟩ : Fin 8) (8 * (s.val % 4) + q) (by omega)
    (by show s.val * 8 + q = s.val / 4 * 32 + _; omega)]
  show (IntOp.shrui .vector (bitcast S8x128 32 d bitcasts_S32x128_w8_S8x128_w32 (ix2 (⟨s.val / 4, _⟩ : Fin 8) p)) 4#32).getLsbD _ = _
  have e : ∀ x : BitVec 32, IntOp.shrui .vector x 4#32 = x >>> 4 := fun x => rfl
  rw [e, BitVec.getLsbD_ushiftRight]
  exact bits_ix2 _ bitcasts_S32x128_w8_S8x128_w32 _ p _ (by omega) s (4 + q) (by omega)
    (by show s.val / 4 * 32 + _ = s.val * 8 + _; omega)

/-- A byte's low four bits as an index, -/
def lowBits (b : BitVec 8) : Fin 16 := ⟨b.toNat % 16, Nat.mod_lt _ (by decide)⟩
/-- and its high four. -/
def highBits (b : BitVec 8) : Fin 16 := ⟨b.toNat / 16, Nat.div_lt_of_lt_mul b.isLt⟩

/-- A byte whose low four bits are another's high four. -/
theorem lowBits_eq_highBits (x y : BitVec 8) (h : ∀ q, q < 4 → x.getLsbD q = y.getLsbD (4 + q)) : lowBits x = highBits y := by
  have e : x &&& 15#8 = y >>> 4 := BitVec.eq_of_getLsbD_eq fun q hq => by
    rw [BitVec.getLsbD_and, BitVec.getLsbD_ushiftRight]
    by_cases h4 : q < 4
    · rw [h q h4]
      have : (15#8 : BitVec 8).getLsbD q = true := by interval_cases q <;> rfl
      rw [this, Bool.and_true]
    · have : (15#8 : BitVec 8).getLsbD q = false := by interval_cases q <;> first | rfl | omega
      rw [this, Bool.and_false, BitVec.getLsbD_of_ge y _ (by omega)]
  refine Fin.ext ?_
  have e' := congrArg BitVec.toNat e
  have hx : ∀ z : BitVec 8, (z &&& 15#8).toNat = z.toNat % 16 := by decide
  have hy : ∀ z : BitVec 8, (z >>> 4).toNat = z.toNat / 16 := by decide
  rw [hx, hy] at e'
  exact e'

/-- The row that a byte's code and a row's parity select. -/
theorem codeRow (d : BitVec 8) (b : Fin 2) :
    IntOp.ori (IntOp.andi d 15#8) (IntOp.shli .vector (BitVec.ofNat 8 b.val) 4#8) = BitVec.ofNat 8 ((lowBits d).val + 16 * b.val) := by
  revert d b; decide

/-- Bit `q` of byte `b` of a looked-up word: that of the table's byte at the code's row. -/
theorem lookupWord_bits (tab d : IVec S32x128 8) (r : Fin 16) (p : Fin 128) (b : Fin 2) (q : Nat) (hq : q < 8) :
    (bitcast S16x128 16 (bitcast S8x128 32 (gatherRows tab
        (ori (andi d (broadcast S32x128 15#8)) (shli k0_pay5 (broadcast S32x128 4#8)))) bitcasts_S32x128_w8_S8x128_w32)
        bitcasts_S8x128_w32_S16x128_w16 (ix2 r p)).getLsbD (8 * b.val + q)
      = (tab (ix2 (⟨(lowBits (d (ix2 (⟨2 * r.val + b.val, by omega⟩ : Fin 32) p))).val + 16 * b.val, by omega⟩ : Fin 32) p)).getLsbD q := by
  have hb := b.isLt
  have hr := r.isLt
  rw [bits_ix2 _ bitcasts_S8x128_w32_S16x128_w16 r p (8 * b.val + q) (by omega) (⟨r.val / 2, by omega⟩ : Fin 8)
      (16 * (r.val % 2) + 8 * b.val + q) (by omega) (by show r.val * 16 + _ = r.val / 2 * 32 + _; omega),
    bits_ix2 _ bitcasts_S32x128_w8_S8x128_w32 _ p _ (by omega) (⟨2 * r.val + b.val, by omega⟩ : Fin 32) q hq
      (by show r.val / 2 * 32 + _ = (2 * r.val + b.val) * 8 + q; omega),
    gatherRows_apply tab _ _ p ⟨(lowBits (d (ix2 (⟨2 * r.val + b.val, by omega⟩ : Fin 32) p))).val + 16 * b.val, by omega⟩ ?_]
  show IntOp.ori (IntOp.andi (d _) 15#8) (IntOp.shli .vector (k0_pay5 _) 4#8) = _
  rw [pay5_apply, show (2 * r.val + b.val) % 2 = b.val by omega, codeRow]

/-- The lane a table lane comes from. -/
theorem srcLanes_apply (r : Fin 8) (p : Fin 128) (par : Fin 2) :
    srcLanes (BitVec.ofNat 32 par.val) (ix2 r p) = BitVec.ofNat 32 (2 * p.val % 128 + par.val) := by
  show IntOp.addi (IntOp.andi (IntOp.shli .vector (lanes (ix2 r p)) 1#32) 127#32) (BitVec.ofNat 32 par.val) = _
  rw [lanes_apply]
  revert p par; decide

/-- A lane selection read at a position, the selection's word below 128. -/
theorem gatherLanes_apply {α : Type} (x : S8x128.Idx → α) (a : IVec S8x128 32) (r : Fin 8) (l y : Fin 128)
    (hy : a (ix2 r l) = BitVec.ofNat 32 y.val) : gatherLanes x a (ix2 r l) = x (ix2 r y) := by
  unfold gatherLanes
  rw [shapeCast_shapeCast]
  show x _ = _
  refine congrArg x (funext fun b => ?_)
  match b with
  | ⟨0, _⟩ => rfl
  | ⟨1, _⟩ =>
    refine Fin.ext ?_
    show (a (ix2 r l)).toNat % 128 = y.val
    rw [hy]
    exact lane_back y

/-- Bit `q` of a table byte: row `s` holds byte `s / 16` of entry `s mod 16` of the column the lane stands for. -/
theorem tableBytes_bits (ta tb : IVec S16x128 16) (par : Fin 2) (e : Fin 16) (b : Fin 2) (p : Fin 128) (q : Nat) (hq : q < 8) :
    (tableBytes ta tb (BitVec.ofNat 32 par.val) (ix2 (⟨e.val + 16 * b.val, by omega⟩ : Fin 32) p)).getLsbD q
      = ((if p.val < 64 then ta else tb) (ix2 e (⟨2 * p.val % 128 + par.val, by omega⟩ : Fin 128))).getLsbD (8 * b.val + q) := by
  have he := e.isLt
  have hb := b.isLt
  have hp := p.isLt
  unfold tableBytes
  rw [gatherRows_apply _ _ _ p ⟨2 * e.val + b.val, by omega⟩ ((pay6_apply _ p).trans (congrArg _ (by
      show 2 * ((e.val + 16 * b.val) % 16) + (e.val + 16 * b.val) / 16 = 2 * e.val + b.val; omega))),
    bits_ix2 _ bitcasts_S8x128_w32_S32x128_w8 _ p q hq (⟨e.val / 2, by omega⟩ : Fin 8) (16 * (e.val % 2) + 8 * b.val + q) (by omega)
      (by show (2 * e.val + b.val) * 8 + q = e.val / 2 * 32 + _; omega)]
  have hw : ∀ t : IVec S16x128 16, (tableWords t (ix2 (⟨e.val / 2, by omega⟩ : Fin 8) (⟨2 * p.val % 128 + par.val, by omega⟩ : Fin 128))).getLsbD
      (16 * (e.val % 2) + 8 * b.val + q) = (t (ix2 e (⟨2 * p.val % 128 + par.val, by omega⟩ : Fin 128))).getLsbD (8 * b.val + q) := fun t => by
    unfold tableWords
    rw [shapeCast_self]
    exact bits_ix2 _ bitcasts_S16x128_w16_S8x128_w32 _ _ _ (by omega) e (8 * b.val + q) (by omega)
      (by show e.val / 2 * 32 + _ = e.val * 16 + _; omega)
  show (Scalar.select (IntOp.cmpi .slt (lanes (ix2 _ p)) 64#32) (gatherLanes (tableWords ta) _ _) (gatherLanes (tableWords tb) _ _)).getLsbD _ = _
  rw [lanes_apply, gatherLanes_apply (tableWords ta) _ _ p ⟨2 * p.val % 128 + par.val, by omega⟩ (srcLanes_apply _ p par),
    gatherLanes_apply (tableWords tb) _ _ p ⟨2 * p.val % 128 + par.val, by omega⟩ (srcLanes_apply _ p par)]
  have hc : ∀ p : Fin 128, IntOp.cmpi .slt (BitVec.ofNat 32 p.val) 64#32 = if p.val < 64 then 1#1 else 0#1 := by decide
  rw [hc]
  by_cases h : p.val < 64
  · rw [if_pos h, if_pos h, select_one, hw]
  · rw [if_neg h, if_neg h, select_zero, hw]

/-- A looked-up element: the value of the table's word at the code of the two bytes that stand for it. -/
theorem lookup_apply (ta tb : IVec S16x128 16) (par : Fin 2) (d : IVec S32x128 8) (r : Fin 16) (p : Fin 128) (e : Fin 16)
    (hd : ∀ b : Fin 2, lowBits (d (ix2 (⟨2 * r.val + b.val, by omega⟩ : Fin 32) p)) = e) :
    lookup (F := F) (tableBytes ta tb (BitVec.ofNat 32 par.val)) d (ix2 r p)
      = FloatOps.ofBits .bf16 ((if p.val < 64 then ta else tb) (ix2 e (⟨2 * p.val % 128 + par.val, by omega⟩ : Fin 128))) := by
  show FloatOps.ofBits .bf16 _ = _
  refine congrArg (FloatOps.ofBits (F := F) .bf16) (BitVec.eq_of_getLsbD_eq fun q hq => ?_)
  obtain ⟨b, k, hk, rfl⟩ : ∃ (b : Fin 2) (k : Nat), k < 8 ∧ q = 8 * b.val + k := ⟨⟨q / 8, by omega⟩, q % 8, by omega, by simp only; omega⟩
  refine (lookupWord_bits (tableBytes ta tb (BitVec.ofNat 32 par.val)) d r p b k hk).trans ?_
  rw [← tableBytes_bits ta tb par e b p k hk]
  simp only [hd b]

end Cert.KernelIdeal.Gen

end
-- ==== Proof.Product.lean ====
/- What one block computes: every decoded row at an index, the products of the chunks at an index, and the output block at an index as
   the sum over the low halves' columns plus the sum over the high halves'. -/
module

public import proofs.«01_k».proof.Proof.Words
public import Idealize.ShloMosaic.Lib.MatmulPlain
public import Idealize.ShloMosaic.Lib.Pipeline.ValueKit.Tiles

@[expose] public section

noncomputable section

namespace Cert.KernelIdeal.Gen

open Idealize.ShloMosaic Idealize.ShloMosaic.ValueIdx
open scoped BigOperators

section Decoded

variable {F : FTy → Type} [FloatOps F]

/-- A weight of the block: the table's entry at the code that `dec` reads of the byte. -/
def weight (dec : BitVec 8 → Fin 16) (W : Vec F S512x2048 .i8) (T : Vec F S16x512 .i16) (n : Fin 512) (k : Fin 2048) : F .bf16 :=
  FloatOps.ofBits .bf16 (T (ix2 (dec (W (ix2 n k))) n))

/-- A weight tile at an index. -/
theorem weightTile_apply (W : Vec F S512x2048 .i8) (r k : Nat) (hr : r + 256 ≤ 512) (hk : k + 256 ≤ 2048) (a b : Fin 256) :
    weightTile W r k hr hk (ix2 a b) = W (ix2 (⟨r + a.val, by omega⟩ : Fin 512) (⟨k + b.val, by omega⟩ : Fin 2048)) :=
  View.ld_unit_apply_of W _ _ _ (ix2 a b) _ (fun c => match c with
    | ⟨0, _⟩ => rfl
    | ⟨1, _⟩ => rfl)

/-- A table tile at an index. -/
theorem tableTile_apply (T : Vec F S16x512 .i16) (o : Nat) (h : o + 128 ≤ 512) (e : Fin 16) (l : Fin 128) :
    tableTile T o h (ix2 e l) = T (ix2 e (⟨o + l.val, by omega⟩ : Fin 512)) :=
  View.ld_unit_apply_of T _ _ _ (ix2 e l) _ (fun c => match c with
    | ⟨0, _⟩ => (Nat.zero_add _).symm
    | ⟨1, _⟩ => rfl)

/-- Columns of the activations at an index. -/
theorem actCols_apply (X : Vec F S16x4096 .bf16) (o : Nat) (h : o + 256 ≤ 4096) (m : Fin 16) (k : Fin 256) :
    actCols X o h (ix2 m k) = X (ix2 m (⟨o + k.val, by omega⟩ : Fin 4096)) :=
  View.ld_unit_apply_of X _ _ _ (ix2 m k) _ (fun c => match c with
    | ⟨0, _⟩ => (Nat.zero_add _).symm
    | ⟨1, _⟩ => rfl)

/-- A look-up in the table of a half's columns of one parity: the lane stands for column `2 p + par` of the half. -/
theorem lookupHalf (T : Vec F S16x512 .i16) (nb par : Fin 2) (d : IVec S32x128 8) (r : Fin 16) (p : Fin 128) (e : Fin 16)
    (hd : ∀ b : Fin 2, lowBits (d (ix2 (⟨2 * r.val + b.val, by omega⟩ : Fin 32) p)) = e) :
    lookup (F := F) (halfTable T nb (BitVec.ofNat 32 par.val)) d (ix2 r p)
      = FloatOps.ofBits .bf16 (T (ix2 e (⟨256 * nb.val + (2 * p.val + par.val), by omega⟩ : Fin 512))) := by
  unfold halfTable
  rw [lookup_apply _ _ par d r p e hd]
  refine congrArg (FloatOps.ofBits (F := F) .bf16) ?_
  have hp := p.isLt
  by_cases h : p.val < 64
  · rw [if_pos h, tableTile_apply]
    refine congrArg T (congrArg (ix2 e) (Fin.ext ?_))
    show 256 * nb.val + (2 * p.val % 128 + par.val) = 256 * nb.val + (2 * p.val + par.val); omega
  · rw [if_neg h, tableTile_apply]
    refine congrArg T (congrArg (ix2 e) (Fin.ext ?_))
    show 256 * nb.val + 128 + (2 * p.val % 128 + par.val) = 256 * nb.val + (2 * p.val + par.val); omega

/-- Two tiles side by side at an index. -/
theorem sideBySide (x y : FVec F S16x128 .bf16) (r : Fin 16) (j : Fin 256) :
    concatenate S16x256 1 [⟨S16x128, x⟩, ⟨S16x128, y⟩] concatenates_S16x128_S16x128_S16x256_d1 (ix2 r j)
      = if j.val < 128 then x (ix2 r (⟨j.val % 128, Nat.mod_lt _ (by decide)⟩ : Fin 128))
        else y (ix2 r (⟨j.val % 128, Nat.mod_lt _ (by decide)⟩ : Fin 128)) := by
  have hj := j.isLt
  by_cases h : j.val < 128
  · rw [if_pos h]
    exact concatenate_pair_apply_left 1 x y _ (ix2 r j) rfl (ix2 r _) (fun b => match b with
      | ⟨0, _⟩ => rfl
      | ⟨1, _⟩ => Nat.mod_eq_of_lt h)
  · rw [if_neg h]
    exact concatenate_pair_apply_right 1 x y _ (ix2 r j) rfl rfl (ix2 r _) (fun b hb => match b, hb with
      | ⟨0, _⟩, _ => rfl
      | ⟨1, _⟩, hb => absurd rfl hb) (by show j.val % 128 + 128 = j.val; omega)

/-- Sixteen decoded rows at an index, where `f` puts the code `dec` reads into the low four bits: the columns come even ones first. -/
theorem decodedRows (dec : BitVec 8 → Fin 16) (f : IVec S32x128 8 → IVec S32x128 8)
    (hf : ∀ (d : IVec S32x128 8) (s : Fin 32) (p : Fin 128), lowBits (f d (ix2 s p)) = dec (d (ix2 s p)))
    (W : Vec F S512x2048 .i8) (T : Vec F S16x512 .i16) (nb : Fin 2) (kc : Fin 8) (g r : Fin 16) (j : Fin 256) (u : IVec S256x128 16)
    (hu : u = weightPairs (weightTile W (256 * nb.val) (256 * kc.val) (by omega) (by omega))) :
    concatenate S16x256 1 [⟨S16x128, lookup (halfTable T nb 0#32) (f (gatherRows (groupBytes u g) k0_pay3))⟩,
        ⟨S16x128, lookup (halfTable T nb 1#32) (f (gatherRows (groupBytes u g) k0_pay4))⟩] concatenates_S16x128_S16x128_S16x256_d1 (ix2 r j)
      = weight dec W T (⟨256 * nb.val + (2 * (j.val % 128) + j.val / 128), by omega⟩ : Fin 512)
          (⟨256 * kc.val + (16 * g.val + r.val), by omega⟩ : Fin 2048) := by
  have hj := j.isLt
  subst hu
  rw [sideBySide]
  have hs : ∀ b : Fin 2, (2 * r.val + b.val) / 2 = r.val := fun b => by omega
  by_cases h : j.val < 128
  · rw [if_pos h]
    refine (lookupHalf T nb 0 _ r _ (dec (W (ix2 (⟨256 * nb.val + (2 * (j.val % 128) + j.val / 128), by omega⟩ : Fin 512)
      (⟨256 * kc.val + (16 * g.val + r.val), by omega⟩ : Fin 2048)))) fun b => ?_).trans ?_
    · rw [hf, groupEven_apply, weightTile_apply]
      refine congrArg (fun i => dec (W i)) (congrArg₂ ix2 (Fin.ext ?_) (Fin.ext ?_))
      · show 256 * nb.val + 2 * (j.val % 128) = _ + (2 * (j.val % 128) + j.val / 128); omega
      · show 256 * kc.val + (16 * g.val + (2 * r.val + b.val) / 2) = _ + (16 * g.val + r.val); rw [hs]
    · refine congrArg (fun i => FloatOps.ofBits (F := F) .bf16 (T (ix2 _ i))) (Fin.ext ?_)
      show 256 * nb.val + (2 * (j.val % 128) + 0) = _ + (2 * (j.val % 128) + j.val / 128); omega
  · rw [if_neg h]
    refine (lookupHalf T nb 1 _ r _ (dec (W (ix2 (⟨256 * nb.val + (2 * (j.val % 128) + j.val / 128), by omega⟩ : Fin 512)
      (⟨256 * kc.val + (16 * g.val + r.val), by omega⟩ : Fin 2048)))) fun b => ?_).trans ?_
    · rw [hf, groupOdd_apply, weightTile_apply]
      refine congrArg (fun i => dec (W i)) (congrArg₂ ix2 (Fin.ext ?_) (Fin.ext ?_))
      · show 256 * nb.val + (2 * (j.val % 128) + 1) = _ + (2 * (j.val % 128) + j.val / 128); omega
      · show 256 * kc.val + (16 * g.val + (2 * r.val + b.val) / 2) = _ + (16 * g.val + r.val); rw [hs]
    · refine congrArg (fun i => FloatOps.ofBits (F := F) .bf16 (T (ix2 _ i))) (Fin.ext ?_)
      show 256 * nb.val + (2 * (j.val % 128) + 1) = _ + (2 * (j.val % 128) + j.val / 128); omega

/-- Sixteen rows of the low halves at an index, -/
theorem lowRows_apply (W : Vec F S512x2048 .i8) (T : Vec F S16x512 .i16) (nb : Fin 2) (kc : Fin 8) (g r : Fin 16) (j : Fin 256) :
    lowRows (halfTable T nb 0#32) (halfTable T nb 1#32) (weightPairs (weightTile W (256 * nb.val) (256 * kc.val) (by omega) (by omega))) g (ix2 r j)
      = weight lowBits W T (⟨256 * nb.val + (2 * (j.val % 128) + j.val / 128), by omega⟩ : Fin 512)
          (⟨256 * kc.val + (16 * g.val + r.val), by omega⟩ : Fin 2048) :=
  decodedRows lowBits (fun d => d) (fun _ _ _ => rfl) W T nb kc g r j _ rfl

/-- and of the high halves. -/
theorem highRows_apply (W : Vec F S512x2048 .i8) (T : Vec F S16x512 .i16) (nb : Fin 2) (kc : Fin 8) (g r : Fin 16) (j : Fin 256) :
    highRows (halfTable T nb 0#32) (halfTable T nb 1#32) (weightPairs (weightTile W (256 * nb.val) (256 * kc.val) (by omega) (by omega))) g (ix2 r j)
      = weight highBits W T (⟨256 * nb.val + (2 * (j.val % 128) + j.val / 128), by omega⟩ : Fin 512)
          (⟨256 * kc.val + (16 * g.val + r.val), by omega⟩ : Fin 2048) :=
  decodedRows highBits highNibble (fun d s p => lowBits_eq_highBits _ _ fun q hq => highNibble_bits d s p q hq) W T nb kc g r j _ rfl

/-- The stacked groups at an index. -/
theorem stackRows_apply (r : Fin 16 → FVec F S16x256 .bf16) (k j : Fin 256) :
    stackRows r (ix2 k j) = r ⟨k.val / 16, by omega⟩ (ix2 (⟨k.val % 16, Nat.mod_lt _ (by decide)⟩ : Fin 16) j) :=
  concatenate_ofFn_apply (t := S256x256) (s₁ := S16x256) 0 r
    concatenates_S16x256_S16x256_S16x256_S16x256_S16x256_S16x256_S16x256_S16x256_S16x256_S16x256_S16x256_S16x256_S16x256_S16x256_S16x256_S16x256_S256x256_d0
    rfl 16 rfl (ix2 k j) ⟨k.val / 16, by omega⟩ rfl (ix2 _ j) rfl (fun b hb => match b, hb with
      | ⟨0, _⟩, hb => absurd rfl hb
      | ⟨1, _⟩, _ => rfl)

end Decoded

section Sums

variable (X : Vec Ideal S16x4096 .bf16) (W : Vec Ideal S512x2048 .i8) (T : Vec Ideal S16x512 .i16)

/-- A chunk's product at an index. -/
theorem chunkProduct_apply (x : FVec Ideal S16x256 .bf16) (r : Fin 16 → FVec Ideal S16x256 .bf16) (m : Fin 16) (j : Fin 256) :
    chunkProduct x r (ix2 m j) = ∑ k : Fin 256, (x (ix2 m k) * r ⟨k.val / 16, by omega⟩ (ix2 (⟨k.val % 16, Nat.mod_lt _ (by decide)⟩ : Fin 16) j) : EReal) := by
  refine (Ideal.matmul_plain_apply (M := 16) (K := 256) (N := 256) none x (stackRows r) (constant (F := Ideal) S16x256 .f32 0x00000000#32) m j).trans ?_
  have h0 : constant (F := Ideal) S16x256 .f32 0x00000000#32 (ix2 m j) = (0 : EReal) := Ideal.ofBits_zero_f32
  rw [h0, zero_add]
  exact Finset.sum_congr rfl fun k _ => by rw [stackRows_apply]

/-- The product of activation and weight: column `o + k` of the activations, row `n` and column `k` of the weights. -/
def term (dec : BitVec 8 → Fin 16) (o : Nat) (ho : o + 2048 ≤ 4096) (m : Fin 16) (n : Fin 512) (k : Fin 2048) : EReal :=
  X (ix2 m (⟨o + k.val, by omega⟩ : Fin 4096)) * weight dec W T n k

/-- The column of the block that column `j` of half `nb` stands for. -/
abbrev column (nb : Fin 2) (j : Fin 256) : Fin 512 := ⟨256 * nb.val + (2 * (j.val % 128) + j.val / 128), by omega⟩

/-- What a chunk adds, at an index: its 256 low columns' products and its 256 high columns'. -/
theorem chunk_apply (nb : Fin 2) (kc : Fin 8) (m : Fin 16) (j : Fin 256) :
    chunk X W T nb kc (ix2 m j)
      = ((∑ k : Fin 256, term X W T lowBits 0 (by decide) m (column nb j) ⟨256 * kc.val + k.val, by omega⟩)
        + ∑ k : Fin 256, term X W T highBits 2048 (by decide) m (column nb j) ⟨256 * kc.val + k.val, by omega⟩ : EReal) := by
  have hlow : ∀ k : Fin 256, 256 * kc.val + (16 * (k.val / 16) + k.val % 16) = 256 * kc.val + k.val := fun k => by omega
  unfold chunk
  refine congrArg₂ (fun (a b : EReal) => a + b) ((chunkProduct_apply _ _ m j).trans (Finset.sum_congr rfl fun k _ => ?_))
    ((chunkProduct_apply _ _ m j).trans (Finset.sum_congr rfl fun k _ => ?_))
  · unfold term
    rw [actCols_apply, lowRows_apply]
    refine congrArg₂ (fun (a b : EReal) => a * b) (congrArg (fun i => X (ix2 m i)) (Fin.ext ?_)) (congrArg (weight lowBits W T _) (Fin.ext (hlow k)))
    show 256 * kc.val + k.val = 0 + (256 * kc.val + k.val); omega
  · unfold term
    rw [actCols_apply, highRows_apply]
    refine congrArg₂ (fun (a b : EReal) => a * b) (congrArg (fun i => X (ix2 m i)) (Fin.ext ?_)) (congrArg (weight highBits W T _) (Fin.ext (hlow k)))
    show 2048 + 256 * kc.val + k.val = 2048 + (256 * kc.val + k.val); omega

/-- A sum over 2048 columns is the sum over eight chunks of 256. -/
theorem sum_chunks (f : Fin 2048 → EReal) : ∑ K : Fin 2048, f K = ∑ kc : Fin 8, ∑ k : Fin 256, f ⟨256 * kc.val + k.val, by omega⟩ := by
  rw [← Equiv.sum_comp (finProdFinEquiv (m := 8) (n := 256)) f, Fintype.sum_prod_type]
  refine Finset.sum_congr rfl fun kc _ => Finset.sum_congr rfl fun k _ => congrArg f (Fin.ext ?_)
  show k.val + 256 * kc.val = 256 * kc.val + k.val
  omega

/-- One row of the block's product at one column. -/
def blockSum (m : Fin 16) (n : Fin 512) : EReal :=
  (∑ K : Fin 2048, term X W T lowBits 0 (by decide) m n K) + ∑ K : Fin 2048, term X W T highBits 2048 (by decide) m n K

/-- A half's sum at an index. -/
theorem halfSum_apply (nb : Fin 2) (m : Fin 16) (j : Fin 256) : halfSum X W T nb (ix2 m j) = blockSum X W T m (column nb j) := by
  show (chunk X W T nb 0 (ix2 m j) + chunk X W T nb 1 (ix2 m j) + chunk X W T nb 2 (ix2 m j) + chunk X W T nb 3 (ix2 m j)
    + chunk X W T nb 4 (ix2 m j) + chunk X W T nb 5 (ix2 m j) + chunk X W T nb 6 (ix2 m j) + chunk X W T nb 7 (ix2 m j) : EReal) = _
  rw [← Fin.sum_univ_eight (fun kc => (chunk X W T nb kc (ix2 m j) : EReal))]
  unfold blockSum
  rw [sum_chunks, sum_chunks, ← Finset.sum_add_distrib]
  exact Finset.sum_congr rfl fun kc _ => chunk_apply X W T nb kc m j

/-- The lane of a half's columns that lane `l` of the interleaved tile takes. -/
theorem halfLane : ∀ (l : Fin 128) (h : Fin 2), IntOp.addi (IntOp.shrsi .vector (BitVec.ofNat 32 l.val) 1#32) (BitVec.ofNat 32 (64 * h.val))
    = BitVec.ofNat 32 (64 * h.val + l.val / 2) := by decide

/-- Even lanes are told from odd ones. -/
theorem evenLane : ∀ l : Fin 128, IntOp.cmpi .eq (IntOp.andi (BitVec.ofNat 32 l.val) 1#32) 0#32 = if l.val % 2 = 0 then 1#1 else 0#1 := by
  decide

/-- The interleaved tile at an index. -/
theorem interleaved_apply (acc : FVec Ideal S16x256 .f32) (h : Fin 2) (m : Fin 3) (l : Fin 128) :
    interleaved acc (BitVec.ofNat 32 (64 * h.val)) (ix2 m l)
      = acc (ix2 (⟨m.val, by omega⟩ : Fin 16) (⟨128 * (l.val % 2) + (64 * h.val + l.val / 2), by omega⟩ : Fin 256)) := by
  have hl := l.isLt
  have hy : (addi (shrsi lanes (broadcast S8x128 1#32)) (broadcast S8x128 (BitVec.ofNat 32 (64 * h.val)))) (ix2 (⟨m.val, by omega⟩ : Fin 8) l)
      = BitVec.ofNat 32 (64 * h.val + l.val / 2) := by
    show IntOp.addi (IntOp.shrsi .vector (lanes _) 1#32) (BitVec.ofNat 32 (64 * h.val)) = _
    rw [lanes_apply, halfLane]
  unfold interleaved
  refine (truncf_apply _ bitsLt_bf16_f32 _).trans ?_
  rw [extractStridedSlice_apply _ _ slices_S8x128_o0_0_S3x128 (ix2 m l) (ix2 (⟨m.val, by omega⟩ : Fin 8) l) (fun a => match a with
    | ⟨0, _⟩ => (Nat.zero_add _).symm
    | ⟨1, _⟩ => (Nat.zero_add _).symm)]
  show Scalar.select (IntOp.cmpi .eq (IntOp.andi (lanes _) 1#32) 0#32) (gatherLanes _ _ _) (gatherLanes _ _ _) = _
  rw [lanes_apply, evenLane, gatherLanes_apply _ _ _ l ⟨64 * h.val + l.val / 2, by omega⟩ hy,
    gatherLanes_apply _ _ _ l ⟨64 * h.val + l.val / 2, by omega⟩ hy]
  by_cases e : l.val % 2 = 0
  · rw [if_pos e, select_one]
    exact extractStridedSlice_apply _ acc slices_S16x256_o0_0_S8x128 _ _ (fun a => match a with
      | ⟨0, _⟩ => (Nat.zero_add _).symm
      | ⟨1, _⟩ => by show 128 * (l.val % 2) + (64 * h.val + l.val / 2) = 0 + (64 * h.val + l.val / 2); omega)
  · rw [if_neg e, select_zero]
    exact extractStridedSlice_apply _ acc slices_S16x256_o0_128_S8x128 _ _ (fun a => match a with
      | ⟨0, _⟩ => (Nat.zero_add _).symm
      | ⟨1, _⟩ => by show 128 * (l.val % 2) + (64 * h.val + l.val / 2) = 128 + (64 * h.val + l.val / 2); omega)

/-- A tile of the output block: the block's sum at the tile's columns. -/
theorem tile_apply (nb h : Fin 2) (m : Fin 3) (l : Fin 128) (n : Fin 512) (hn : n.val = 256 * nb.val + 128 * h.val + l.val) :
    interleaved (halfSum X W T nb) (BitVec.ofNat 32 (64 * h.val)) (ix2 m l) = blockSum X W T (⟨m.val, by omega⟩ : Fin 16) n := by
  have hl := l.isLt
  rw [interleaved_apply, halfSum_apply]
  refine congrArg (blockSum X W T _) (Fin.ext ?_)
  show 256 * nb.val + (2 * ((128 * (l.val % 2) + (64 * h.val + l.val / 2)) % 128) + (128 * (l.val % 2) + (64 * h.val + l.val / 2)) / 128) = n.val
  omega

/-- The output block's function of the index. -/
def blockFn (i : S3x512.Idx) : EReal := blockSum X W T (⟨(i 0).val, Nat.lt_of_lt_of_le (i 0).isLt (by decide)⟩ : Fin 16) ⟨(i 1).val, (i 1).isLt⟩

/-- The function at a row and a column. -/
theorem blockFn_apply (m : Fin 3) (n : Fin 512) : blockFn X W T (ix2 m n) = blockSum X W T (⟨m.val, by omega⟩ : Fin 16) n := rfl

/-- THE BLOCK: every element of the output block is the activations' row against the weights' row. -/
theorem outBlock_apply (i : S3x512.Idx) : outBlock X W T i = blockFn X W T i := by
  have tile : ∀ (nb h : Fin 2) (o : Nat) (ho : o = 256 * nb.val + 128 * h.val) (inb) (x : S3x128.Idx),
      interleaved (halfSum X W T nb) (BitVec.ofNat 32 (64 * h.val)) x
        = blockFn X W T ((Rect.unit (s := S3x512) ![0, o] S3x128.size inb).emb x) := fun nb h o ho inb x => by
    have ex : x = ix2 (⟨(x 0).val, (x 0).isLt⟩ : Fin 3) (⟨(x 1).val, (x 1).isLt⟩ : Fin 128) := by
      funext a; match a with | ⟨0, _⟩ => rfl | ⟨1, _⟩ => rfl
    have e0 := Rect.idx_unit_val (s := S3x512) ![0, o] S3x128.size inb x 0
    have e1 := Rect.idx_unit_val (s := S3x512) ![0, o] S3x128.size inb x 1
    refine (congrArg _ ex).trans ((tile_apply X W T nb h _ _ ⟨o + (x 1).val, ?_⟩ ?_).trans ?_)
    · have h1 : (x 1).val < 128 := (x 1).isLt
      omega
    · show o + (x 1).val = 256 * nb.val + 128 * h.val + (x 1).val; omega
    · unfold blockFn
      refine congrArg₂ (blockSum X W T) (Fin.ext ?_) (Fin.ext ?_)
      · exact ((e0.trans (Nat.zero_add _))).symm
      · exact e1.symm
  have h0 : (i 0).val < 3 := (i 0).isLt
  have h1 : (i 1).val < 512 := (i 1).isLt
  refine View.canon_apply_of_pieces (Val := Elt Ideal) (S := S3x512) (e := .bf16) (blockFn X W T) _ (fun p hp x => ?_) i ?_
  · simp only [List.mem_cons, List.not_mem_nil, or_false] at hp
    rcases hp with rfl | rfl | rfl | rfl
    · exact tile 1 1 384 rfl inb_S3x512_S3x128_0_384 x
    · exact tile 1 0 256 rfl inb_S3x512_S3x128_0_256 x
    · exact tile 0 1 128 rfl inb_S3x512_S3x128_0_128 x
    · exact tile 0 0 0 rfl inb_S3x512_S3x128_0_0 x
  · have mem : ∀ (o : Nat) (inb), o ≤ (i 1).val → (i 1).val < o + 128 → i ∈ (Rect.unit (s := S3x512) ![0, o] S3x128.size inb).set :=
      fun o inb ha hb => (Rect.mem_set_unit (inb := inb)).mpr fun a => match a with
        | ⟨0, _⟩ => ⟨Nat.zero_le _, by show (i 0).val < 0 + 3; omega⟩
        | ⟨1, _⟩ => ⟨ha, hb⟩
    by_cases c1 : (i 1).val < 128
    · exact ⟨⟨_, _⟩, List.mem_cons_of_mem _ (List.mem_cons_of_mem _ (List.mem_cons_of_mem _ List.mem_cons_self)), mem 0 inb_S3x512_S3x128_0_0 (Nat.zero_le _) (by omega)⟩
    by_cases c2 : (i 1).val < 256
    · exact ⟨⟨_, _⟩, List.mem_cons_of_mem _ (List.mem_cons_of_mem _ List.mem_cons_self), mem 128 inb_S3x512_S3x128_0_128 (by omega) (by omega)⟩
    by_cases c3 : (i 1).val < 384
    · exact ⟨⟨_, _⟩, List.mem_cons_of_mem _ List.mem_cons_self, mem 256 inb_S3x512_S3x128_0_256 (by omega) (by omega)⟩
    · exact ⟨⟨_, _⟩, List.mem_cons_self, mem 384 inb_S3x512_S3x128_0_384 (by omega) (by omega)⟩

end Sums

end Cert.KernelIdeal.Gen

end
-- ==== Proof.Array.lean ====
/- What the output array holds after the run: the padded activations, the blocks and the table at an index in terms of the arguments, the
   array that the grid points' blocks fill, and the result behind the last host line — every element the value the reference has there. -/
module

public import proofs.«01_k».proof.Proof.Frame
public import proofs.«01_k».proof.Proof.Product
public import proofs.«01_k».proof.Proof.Reference
public import Idealize.ShloMosaic.Lib.Pipeline.ValueKit
public import Idealize.ShloMosaic.Lib.Claim
public import Idealize.ShloMosaic.Lib.Pointwise

@[expose] public section

noncomputable section

namespace Cert.KernelIdeal.Gen

open Idealize.ShloMosaic hiding ix2 ix3
open Idealize.ShloMosaic.ValueIdx Idealize.ShloMosaic.TcCoe Idealize.SL.Sem
open Idealize.ShloMosaic.Pipeline (Dat)
open Cert.ReferenceIdeal.Decode (spec)
open scoped BigOperators

section Acts

variable {F : FTy → Type} [FloatOps F]

/-- The stored rows are the rows read. -/
theorem pay2_eq (x : Vec F S3x4096 .bf16) : k0_pay2 x = x := by
  unfold k0_pay2
  dsimp only
  rw [shapeCast_self, shapeCast_self]

/-- The first three rows of the padded activations are the activations. -/
theorem padActs_apply (x : Vec F S3x4096 .bf16) (r : Fin 3) (k : Fin 4096) :
    padActs x (ix2 (⟨r.val, by omega⟩ : Fin 16) k) = x (ix2 r k) := by
  unfold padActs
  have e : ix2 (⟨r.val, by omega⟩ : Fin 16) k
      = (Rect.unit (s := S16x4096) ![0, 0] S4x4096.size inb_S16x4096_S4x4096_0_0).emb (ix2 (⟨r.val, by omega⟩ : Fin 4) k) := by
    funext a
    refine Fin.ext (Eq.trans ?_ (Rect.idx_unit_val (s := S16x4096) ![0, 0] S4x4096.size inb_S16x4096_S4x4096_0_0 _ a).symm)
    match a with
    | ⟨0, _⟩ => exact (Nat.zero_add _).symm
    | ⟨1, _⟩ => exact (Nat.zero_add _).symm
  rw [e, View.canon_cons_emb, pay2_eq]
  unfold updateSlice
  rw [dif_pos fun a => match a with
    | ⟨0, _⟩ => ⟨Nat.zero_le _, by show r.val < 0 + 3; omega⟩
    | ⟨1, _⟩ => ⟨Nat.zero_le _, by show k.val < 0 + 4096; omega⟩]
  exact View.ld_unit_apply_of x _ _ _ _ (ix2 r k) (fun c => match c with
    | ⟨0, _⟩ => (Nat.zero_add _).symm
    | ⟨1, _⟩ => (Nat.zero_add _).symm)

end Acts

variable (m : (ℓ : Loc nD τ sig) → Buf (Elt Ideal) ℓ) (ρ : Dev nD → PrngReg) (c : Dev nD)

/-- The activations, -/
abbrev arg0 : Vec Ideal S3x1x4096 .bf16 := m ((c : Thread nD τ).loc main_arg0)
/-- the packed weights -/
abbrev arg1 : Vec Ideal S14336x2048 .i8 := m ((c : Thread nD τ).loc main_arg1)
/-- and the table's words. -/
abbrev arg2 : Vec Ideal S14336x16 .i16 := m ((c : Thread nD τ).loc main_arg2)

/-- Every window's block at a grid point. -/
theorem index_eq : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

/-- The activations as the region finds them: the argument's rows. -/
theorem V_acts (r : Fin 3) (k : Fin 4096) : V m c main_v0 (ix2 r k) = arg0 m c (ix3 r (0 : Fin 1) k) := by
  entry_read
  exact shapeCast_apply _ shapeCasts_S3x1x4096_S3x4096 (ix2 r k) (ix3 r (0 : Fin 1) k) (by
    rw [Shape.rowMajor_val_three, Shape.rowMajor_val_two]
    show (r.val * 1 + 0) * 4096 + k.val = r.val * 4096 + k.val; omega)

/-- The table as the region finds it: the argument's transpose. -/
theorem V_table (e : Fin 16) (n : Fin 14336) : V m c main_v1 (ix2 e n) = arg2 m c (ix2 n e) := by
  entry_read
  exact transpose_apply _ _ transposes_S14336x16_S16x14336_1_0 (ix2 e n) (ix2 n e) (fun a => match a with
    | ⟨0, _⟩ => rfl
    | ⟨1, _⟩ => rfl)

/-- Row `r` of point `t`'s block, as a row of the weights. -/
abbrev rowAt (t : Fin cfg0.N) (r : Fin 512) : Fin 14336 := ⟨512 * t.val + r.val, by have h : t.val < 28 := t.isLt; have := r.isLt; omega⟩

/-- The activations' block. -/
theorem actsBlock (t : Fin cfg0.N) (r : Fin 3) (k : Fin 4096) : iblk m c 0 t (ix2 r k) = arg0 m c (ix3 r (0 : Fin 1) k) := by
  rw [← V_acts]
  blk_ext [iblk, (index_eq t).1]

/-- The weights' block. -/
theorem weightsBlock (t : Fin cfg0.N) (r : Fin 512) (k : Fin 2048) : iblk m c 1 t (ix2 r k) = arg1 m c (ix2 (rowAt t r) k) := by
  blk_ext [iblk, V_main_arg1, (index_eq t).2.1]
  show t.val * 512 + r.val = 512 * t.val + r.val
  omega

/-- The table's block. -/
theorem tableBlock (t : Fin cfg0.N) (e : Fin 16) (r : Fin 512) : iblk m c 2 t (ix2 e r) = arg2 m c (ix2 (rowAt t r) e) := by
  rw [← V_table]
  blk_ext [iblk, (index_eq t).2.2.1]
  show t.val * 512 + r.val = 512 * t.val + r.val
  omega

/-- THE BLOCK AT A POINT: the reference's value at the point's rows of the weights. -/
theorem outAt_apply (t : Fin cfg0.N) (r : Fin 3) (n : Fin 512) :
    outAt m c t (ix2 r n) = spec (arg0 m c) (arg1 m c) (arg2 m c) r (rowAt t n) := by
  unfold outAt
  rw [outBlock_apply, blockFn_apply]
  unfold blockSum spec
  have hx : ∀ k : Fin 4096, acts m c (ix2 (⟨r.val, by omega⟩ : Fin 16) k) = arg0 m c (ix3 r (0 : Fin 1) k) := fun k => by
    unfold acts
    rw [padActs_apply, actsBlock]
  have hw : ∀ (dec : BitVec 8 → Fin 16) (k : Fin 2048), weight dec (iblk m c 1 t) (iblk m c 2 t) n k
      = Cert.ReferenceIdeal.Decode.entry (F := Ideal) (arg2 m c) (rowAt t n) (dec (arg1 m c (ix2 (rowAt t n) k))) := fun dec k => by
    unfold weight
    rw [weightsBlock, tableBlock]
    rfl
  refine congrArg₂ (fun (a b : EReal) => a + b) (Finset.sum_congr rfl fun k _ => ?_) (Finset.sum_congr rfl fun k _ => ?_)
  · unfold term
    rw [hx, hw]
    refine congrArg₂ (fun (a b : EReal) => a * b) (congrArg (fun i => arg0 m c (ix3 r (0 : Fin 1) i)) (Fin.ext ?_)) rfl
    show 0 + k.val = k.val; omega
  · unfold term
    rw [hx, hw]
    rfl

/-- The output array's value at an index. -/
def outFn : Vec Ideal S3x14336 .bf16 := fun i =>
  spec (arg0 m c) (arg1 m c) (arg2 m c) (⟨(i 0).val, (i 0).isLt⟩ : Fin 3) (⟨(i 1).val, (i 1).isLt⟩ : Fin 14336)

/-- THE ARRAY: the points' blocks fill it with the reference's values. -/
theorem final : (dats m 0 c).arrAt 3 cfg0.N = outFn m c := by
  refine (dats m 0 c).arrAt_eq_of_covers 3 _ (by decide +kernel) fun t hf y => ?_
  blk_simp
  rw [after0_3]
  have ey : y = ix2 (⟨(y 0).val, (y 0).isLt⟩ : Fin 3) (⟨(y 1).val, (y 1).isLt⟩ : Fin 512) := by
    funext a; match a with | ⟨0, _⟩ => rfl | ⟨1, _⟩ => rfl
  refine (congrArg (outAt m c t) ey).trans ((outAt_apply m c t _ _).trans ?_)
  show outFn m c (ix2 (⟨(y 0).val, (y 0).isLt⟩ : Fin 3) (rowAt t ⟨(y 1).val, (y 1).isLt⟩)) = _
  blk_ext [(index_eq t).2.2.2]

/-- The result behind the host's last line. -/
theorem tail_result (r : Fin 3) (n : Fin 14336) : tail m c main_v3 (ix3 r (0 : Fin 1) n) = spec (arg0 m c) (arg1 m c) (arg2 m c) r n := by
  unfold tail Pipeline.afterTail₀
  rw [show ([hostOps1] : List (List (HloOp τ sig (Elt Ideal)))).flatten = hostOps1 from rfl, StableHlo.after_cons, StableHlo.after_nil,
    StableHlo.reshape_result', Pipeline.withArrays_arr spec0 launch0.win.arr_inj c _ _ 3]
  show shapeCast S3x1x14336 ((dats m 0 c).arrAt 3 cfg0.N) shapeCasts_S3x14336_S3x1x14336 (ix3 r (0 : Fin 1) n) = _
  rw [final]
  exact shapeCast_apply (outFn m c) shapeCasts_S3x14336_S3x1x14336 (ix3 r (0 : Fin 1) n) (ix2 r n) (by
    rw [Shape.rowMajor_val_three, Shape.rowMajor_val_two]
    show r.val * 14336 + n.val = (r.val * 1 + 0) * 14336 + n.val; omega)

end Cert.KernelIdeal.Gen

end
-- ==== Proof.Equal.lean ====
/- The value claim: from equal arguments the idealized kernel and the reference end with equal results, element by element. -/
module

public import proofs.«01_k».proof.Defs
public import proofs.«01_k».proof.Proof.Array

@[expose] public section

noncomputable section

namespace Cert.Value

open Idealize.ShloMosaic hiding ix2 ix3
open Idealize.ShloMosaic.ValueIdx Idealize.ShloMosaic.TcCoe Idealize.SL.Sem
open Cert.KernelIdeal.Gen (tail tail_result run_main frame_run dats arg0 arg1 arg2)
open Cert.ReferenceIdeal.Decode (result_apply)

/-- The kernel's result is the reference's function of the arguments. -/
theorem tail_eq (m : (ℓ : Loc Cert.KernelIdeal.nD Cert.KernelIdeal.τ Cert.KernelIdeal.sig) → Buf (Elt Ideal) ℓ) (c : Dev Cert.KernelIdeal.nD) :
    tail m c Cert.KernelIdeal.main_v3
      = Cert.ReferenceIdeal.Read.val_main_v122 (F := Ideal) (arg0 m c) (arg1 m c) (arg2 m c) := by
  funext i
  have ei : i = ix3 (⟨(i 0).val, (i 0).isLt⟩ : Fin 3) (0 : Fin 1) (⟨(i 2).val, (i 2).isLt⟩ : Fin 14336) := by
    funext a
    match a with
    | ⟨0, _⟩ => rfl
    | ⟨1, h⟩ => exact Fin.ext (by have h1 : (i ⟨1, h⟩).val < 1 := (i ⟨1, h⟩).isLt; show (i ⟨1, h⟩).val = 0; omega)
    | ⟨2, _⟩ => rfl
  rw [ei, tail_result, result_apply]

/-- The idealized kernel's run: the result at the reference's function, the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v3)
          = Cert.ReferenceIdeal.Read.val_main_v122 (F := Ideal) (arg0 m c) (arg1 m c) (arg2 m c)
        ∧ r.2.mem ((c.tc : Thread Cert.KernelIdeal.nD Cert.KernelIdeal.τ).loc Cert.KernelIdeal.main_arg0) = arg0 m c
        ∧ r.2.mem ((c.tc : Thread Cert.KernelIdeal.nD Cert.KernelIdeal.τ).loc Cert.KernelIdeal.main_arg1) = arg1 m c
        ∧ r.2.mem ((c.tc : Thread Cert.KernelIdeal.nD Cert.KernelIdeal.τ).loc Cert.KernelIdeal.main_arg2) = arg2 m c) :=
  (θ_run _ _ _).mono (fun _ h c => ⟨((h.1 c).2 Cert.KernelIdeal.main_v3
      (Pipeline.mem_restRefs_of Cert.KernelIdeal.main_v3 (by decide) (by decide))).trans (tail_eq m c), h.2.1 c⟩)
    (θ_run_and (run_main m g) (frame_run m g))

/-- THE CLAIM: equal arguments, equal results. -/
theorem algebraic : Cert.algebraic_KernelIdeal_ReferenceIdeal := fun m g m' g' _ ha =>
  ⟨fun c => Cert.ReferenceIdeal.Read.val_main_v122 (F := Ideal) (arg0 m c) (arg1 m c) (arg2 m c), kernel_run m g,
    (θ_run _ _ _).mono (fun _ h c => ⟨by
        refine ((h c).1).trans ?_
        refine (Cert.ReferenceIdeal.Read.val_main_v122_eq (StableHlo.launchContents m' c)).trans ?_
        exact congr (congrArg₂ (Cert.ReferenceIdeal.Read.val_main_v122 (F := Ideal)) (ha c).1 (ha c).2.1) (ha c).2.2, (h c).2⟩)
      (Cert.ReferenceIdeal.Value.run m' g')⟩

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel
public import proofs.«01_k».proof.Proof.Reference
public import proofs.«01_k».proof.Proof.Equal
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.Frames.kernel, Cert.Frames.kernelIdeal, Cert.ReferenceIdeal.Decode.frame, trivial, Cert.Value.algebraic⟩

end Cert.Proof

end
